-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_modulation [hPre_finite_modulation : Cert.Pre_finite_modulation.Facts] (m : (ℓ : Loc Cert.KernelIdeal.nD Cert.KernelIdeal.τ Cert.KernelIdeal.sig) → Buf (Elt Ideal) ℓ) : Prop :=
  ∀ c : Dev Cert.KernelIdeal.nD,
    (Cert.Pre_finite_modulation.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_modulation.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_modulation [hPre_finite_modulation : Cert.Pre_finite_modulation.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_modulation.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_modulation.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_modulation [hKernelIdeal : Cert.KernelIdeal.Facts] [hPre_finite_modulation : Cert.Pre_finite_modulation.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_modulation m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_modulation [hReferenceIdeal : Cert.ReferenceIdeal.Facts] [hPre_finite_modulation : Cert.Pre_finite_modulation.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_modulation m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "inv_k" .f32 0x39AAAAAB#32 ((1 / 3072 : ℝ) : EReal)

def algebraic_KernelIdeal_ReferenceIdeal_pre_finite_modulation [hKernelIdeal : Cert.KernelIdeal.Facts] [hReferenceIdeal : Cert.ReferenceIdeal.Facts] [hPre_finite_modulation : Cert.Pre_finite_modulation.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_modulation m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_v2) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_modulation : Cert.Pre_finite_modulation.Facts),
    quiescent_Kernel (hKernel := hKernel)
    ∧ quiescent_KernelIdeal (hKernelIdeal := hKernelIdeal)
    ∧ quiescent_KernelIdeal_pre_finite_modulation (hKernelIdeal := hKernelIdeal) (hPre_finite_modulation := hPre_finite_modulation)
    ∧ quiescent_ReferenceIdeal (hReferenceIdeal := hReferenceIdeal)
    ∧ quiescent_ReferenceIdeal_pre_finite_modulation (hReferenceIdeal := hReferenceIdeal) (hPre_finite_modulation := hPre_finite_modulation)
    ∧ preserves_Kernel_KernelIdeal
    ∧ algebraic_KernelIdeal_ReferenceIdeal_pre_finite_modulation (hKernelIdeal := hKernelIdeal) (hReferenceIdeal := hReferenceIdeal) (hPre_finite_modulation := hPre_finite_modulation)
-- ==== Pre_finite_modulation.lean ====
abbrev S2x4096x3072 : Shape := ⟨3, ![2, 4096, 3072]⟩
abbrev S2x3072 : Shape := ⟨2, ![2, 3072]⟩
abbrev S3072x9216 : Shape := ⟨2, ![3072, 9216]⟩
abbrev S9216 : Shape := ⟨1, ![9216]⟩
abbrev S_ : Shape := ⟨0, ![]⟩

class Facts : Prop where
  bcast_S_S2x3072 : S_.BroadcastsInDim S2x3072 (![] : Fin 0 → Fin S2x3072.rank)

variable [Facts]

def fn {F : FTy → Type} [FloatOps F] (main_arg0 : FVec F S2x4096x3072 .bf16) (main_arg1 : FVec F S2x3072 .f32) (main_arg2 : FVec F S2x3072 .f32) (main_arg3 : FVec F S3072x9216 .fp8e4m3) (main_arg4 : FVec F S9216 .f32) (main_arg5 : FVec F S9216 .f32) : IVec S2x3072 1 × IVec S2x3072 1 :=
  let main_v0 : FVec F S2x3072 .f32 := Host.absf main_arg1
  let main_cst : FVec F S_ .f32 := constant S_ .f32 0x7F7FFFFF#32
  let main_v1 : FVec F S2x3072 .f32 := broadcastInDim S2x3072 ![] bcast_S_S2x3072 main_cst
  let main_v2 : IVec S2x3072 1 := cmpf .ole main_v0 main_v1
  let main_v3 : FVec F S2x3072 .f32 := Host.absf main_arg2
  let main_cst_0 : FVec F S_ .f32 := constant S_ .f32 0x7F7FFFFF#32
  let main_v4 : FVec F S2x3072 .f32 := broadcastInDim S2x3072 ![] bcast_S_S2x3072 main_cst_0
  let main_v5 : IVec S2x3072 1 := cmpf .ole main_v3 main_v4
  (main_v2, main_v5)
-- ==== Kernel.lean ====
abbrev S2x4096x3072 : Shape := ⟨3, ![2, 4096, 3072]⟩
abbrev S2x3072 : Shape := ⟨2, ![2, 3072]⟩
abbrev S3072x9216 : Shape := ⟨2, ![3072, 9216]⟩
abbrev S9216 : Shape := ⟨1, ![9216]⟩
abbrev S8192x3072 : Shape := ⟨2, ![8192, 3072]⟩
abbrev S1x9216 : Shape := ⟨2, ![1, 9216]⟩
abbrev S8192x9216 : Shape := ⟨2, ![8192, 9216]⟩
abbrev S2x4096 : Shape := ⟨2, ![2, 4096]⟩
abbrev S256x3072 : Shape := ⟨2, ![256, 3072]⟩
abbrev S256x9216 : Shape := ⟨2, ![256, 9216]⟩
abbrev S1x3072 : Shape := ⟨2, ![1, 3072]⟩
abbrev S128x128 : Shape := ⟨2, ![128, 128]⟩
abbrev S32x3072 : Shape := ⟨2, ![32, 3072]⟩
abbrev S32 : Shape := ⟨1, ![32]⟩
abbrev S32x1 : Shape := ⟨2, ![32, 1]⟩
abbrev S32x128 : Shape := ⟨2, ![32, 128]⟩
abbrev S256x128 : Shape := ⟨2, ![256, 128]⟩
abbrev S128 : Shape := ⟨1, ![128]⟩
abbrev S1x128 : Shape := ⟨2, ![1, 128]⟩
abbrev S2x128 : Shape := ⟨2, ![2, 128]⟩
abbrev S3072x512 : Shape := ⟨2, ![3072, 512]⟩
abbrev S256x512 : Shape := ⟨2, ![256, 512]⟩
abbrev S256x1 : Shape := ⟨2, ![256, 1]⟩
abbrev S1x512 : Shape := ⟨2, ![1, 512]⟩

abbrev nBuf : Space → Nat
  | .hbm => 12
  | .vmem => 12
  | .smem => 0
  | _ => 0

abbrev bufTy : (tb : Table) → Fin (tcTables nBuf tb) → BufTy
  | .hbm, ⟨0, _⟩ => ⟨S2x4096x3072, .bf16⟩
  | .hbm, ⟨1, _⟩ => ⟨S2x3072, .f32⟩
  | .hbm, ⟨2, _⟩ => ⟨S2x3072, .f32⟩
  | .hbm, ⟨3, _⟩ => ⟨S3072x9216, .fp8e4m3⟩
  | .hbm, ⟨4, _⟩ => ⟨S9216, .f32⟩
  | .hbm, ⟨5, _⟩ => ⟨S9216, .f32⟩
  | .hbm, ⟨6, _⟩ => ⟨S8192x3072, .bf16⟩
  | .hbm, ⟨7, _⟩ => ⟨S1x9216, .f32⟩
  | .hbm, ⟨8, _⟩ => ⟨S1x9216, .f32⟩
  | .hbm, ⟨9, _⟩ => ⟨S8192x9216, .bf16⟩
  | .hbm, ⟨10, _⟩ => ⟨S8192x3072, .fp8e4m3⟩
  | .hbm, ⟨11, _⟩ => ⟨S2x4096, .f32⟩
  | .local _ .vmem, ⟨0, _⟩ => ⟨S256x3072, .bf16⟩
  | .local _ .vmem, ⟨1, _⟩ => ⟨S256x3072, .bf16⟩
  | .local _ .vmem, ⟨2, _⟩ => ⟨S2x3072, .f32⟩
  | .local _ .vmem, ⟨3, _⟩ => ⟨S2x3072, .f32⟩
  | .local _ .vmem, ⟨4, _⟩ => ⟨S3072x9216, .fp8e4m3⟩
  | .local _ .vmem, ⟨5, _⟩ => ⟨S1x9216, .f32⟩
  | .local _ .vmem, ⟨6, _⟩ => ⟨S1x9216, .f32⟩
  | .local _ .vmem, ⟨7, _⟩ => ⟨S256x9216, .bf16⟩
  | .local _ .vmem, ⟨8, _⟩ => ⟨S256x9216, .bf16⟩
  | .local _ .vmem, ⟨9, _⟩ => ⟨S256x3072, .fp8e4m3⟩
  | .local _ .vmem, ⟨10, _⟩ => ⟨S256x3072, .fp8e4m3⟩
  | .local _ .vmem, ⟨11, _⟩ => ⟨S2x4096, .f32⟩
  | _, _ => ⟨S2x4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11

abbrev nD : Nat := 1
abbrev τ : Topo := Topo.v7x

variable {F : FTy → Type} [FloatOps F]

abbrev grid0 : Pipeline.Grid := ⟨1, ![32], ![false]⟩

def k0_off1 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c16_i32 : BitVec 32 := 16#32
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let v0 : BitVec 32 := Scalar.divsi arg0 c16_i32
  let c1_i32 : BitVec 32 := 1#32
  let v15 : BitVec 32 := Scalar.subi v0 c1_i32
  let v16 : BitVec 32 := Scalar.select v14 v15 v0
  let v17 : Index := Scalar.indexCast v16
  let c0 : Index := 0#32
  ![v17.toNat, 0]
def k0_mult1 (i : grid0.Coords) : BitVec 32 :=
  let arg0 : BitVec 32 := BitVec.ofNat 32 (i 0).val
  let c16_i32_364 : BitVec 32 := 16#32
  let c0_i32_365 : BitVec 32 := 0#32
  let v1091 : BitVec 1 := Scalar.cmpi .eq c16_i32_364 c0_i32_365
  let c1_i32_366 : BitVec 32 := 1#32
  let v1092 : BitVec 32 := Scalar.select v1091 c1_i32_366 c16_i32_364
  let v1093 : BitVec 32 := Scalar.remsi arg0 v1092
  let c0_i32_368 : BitVec 32 := 0#32
  let v1095 : BitVec 1 := Scalar.cmpi .slt v1093 c0_i32_368
  let c0_i32_369 : BitVec 32 := 0#32
  let v1096 : BitVec 1 := Scalar.cmpi .slt v1092 c0_i32_369
  let v1097 : BitVec 1 := Scalar.xori v1095 v1096
  let c0_i32_367 : BitVec 32 := 0#32
  let v1094 : BitVec 1 := Scalar.cmpi .ne v1093 c0_i32_367
  let v1098 : BitVec 1 := Scalar.andi v1097 v1094
  let v1099 : BitVec 32 := Scalar.addi v1093 v1092
  let v1100 : BitVec 32 := Scalar.select v1098 v1099 v1093
  let c256_i32 : BitVec 32 := 256#32
  let v1101 : BitVec 32 := Scalar.muli v1100 c256_i32
  let c0_i32_372 : BitVec 32 := 0#32
  let v1107 : BitVec 32 := Scalar.addi v1101 c0_i32_372
  v1107
def k0_off2 (i : grid0.Coords) (c0_i32_372 : BitVec 32) : Fin 2 → Nat :=
  let c0_373 : Index := 0#32
  let arg0 : BitVec 32 := BitVec.ofNat 32 (i 0).val
  let c16_i32_364 : BitVec 32 := 16#32
  let c0_i32_365 : BitVec 32 := 0#32
  let v1091 : BitVec 1 := Scalar.cmpi .eq c16_i32_364 c0_i32_365
  let c1_i32_366 : BitVec 32 := 1#32
  let v1092 : BitVec 32 := Scalar.select v1091 c1_i32_366 c16_i32_364
  let v1093 : BitVec 32 := Scalar.remsi arg0 v1092
  let c0_i32_368 : BitVec 32 := 0#32
  let v1095 : BitVec 1 := Scalar.cmpi .slt v1093 c0_i32_368
  let c0_i32_369 : BitVec 32 := 0#32
  let v1096 : BitVec 1 := Scalar.cmpi .slt v1092 c0_i32_369
  let v1097 : BitVec 1 := Scalar.xori v1095 v1096
  let c0_i32_367 : BitVec 32 := 0#32
  let v1094 : BitVec 1 := Scalar.cmpi .ne v1093 c0_i32_367
  let v1098 : BitVec 1 := Scalar.andi v1097 v1094
  let v1099 : BitVec 32 := Scalar.addi v1093 v1092
  let v1100 : BitVec 32 := Scalar.select v1098 v1099 v1093
  let c256_i32 : BitVec 32 := 256#32
  let v1101 : BitVec 32 := Scalar.muli v1100 c256_i32
  let v1107 : BitVec 32 := Scalar.addi v1101 c0_i32_372
  let v1108 : BitVec 32 := v1107
  let v1109 : Index := Scalar.indexCast v1108
  ![0, v1109.toNat]
def k0_mult2 (i : grid0.Coords) : BitVec 32 :=
  let arg0 : BitVec 32 := BitVec.ofNat 32 (i 0).val
  let c16_i32_364 : BitVec 32 := 16#32
  let c0_i32_365 : BitVec 32 := 0#32
  let v1091 : BitVec 1 := Scalar.cmpi .eq c16_i32_364 c0_i32_365
  let c1_i32_366 : BitVec 32 := 1#32
  let v1092 : BitVec 32 := Scalar.select v1091 c1_i32_366 c16_i32_364
  let v1093 : BitVec 32 := Scalar.remsi arg0 v1092
  let c0_i32_368 : BitVec 32 := 0#32
  let v1095 : BitVec 1 := Scalar.cmpi .slt v1093 c0_i32_368
  let c0_i32_369 : BitVec 32 := 0#32
  let v1096 : BitVec 1 := Scalar.cmpi .slt v1092 c0_i32_369
  let v1097 : BitVec 1 := Scalar.xori v1095 v1096
  let c0_i32_367 : BitVec 32 := 0#32
  let v1094 : BitVec 1 := Scalar.cmpi .ne v1093 c0_i32_367
  let v1098 : BitVec 1 := Scalar.andi v1097 v1094
  let v1099 : BitVec 32 := Scalar.addi v1093 v1092
  let v1100 : BitVec 32 := Scalar.select v1098 v1099 v1093
  let c256_i32 : BitVec 32 := 256#32
  let v1101 : BitVec 32 := Scalar.muli v1100 c256_i32
  let c128_i32_377 : BitVec 32 := 128#32
  let v1125 : BitVec 32 := Scalar.addi v1101 c128_i32_377
  v1125
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3072x9216 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x9216 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x9216 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x9216 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x3072 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== KernelIdeal.lean ====
variable {F : FTy → Type} [FloatOps F] [Named F]
def κ : String → Option EReal := fun
  | "inv_k" => some ((1 / 3072 : ℝ) : EReal)
  | _ => none
-- ==== ReferenceIdeal.lean ====
abbrev S2x4096x3072 : Shape := ⟨3, ![2, 4096, 3072]⟩
abbrev S2x3072 : Shape := ⟨2, ![2, 3072]⟩
abbrev S3072x9216 : Shape := ⟨2, ![3072, 9216]⟩
abbrev S9216 : Shape := ⟨1, ![9216]⟩
abbrev S2x4096x9216 : Shape := ⟨3, ![2, 4096, 9216]⟩
abbrev S2x4096 : Shape := ⟨2, ![2, 4096]⟩
abbrev S2x4096x1 : Shape := ⟨3, ![2, 4096, 1]⟩
abbrev S2x1x3072 : Shape := ⟨3, ![2, 1, 3072]⟩
abbrev S1x1x254 : Shape := ⟨3, ![1, 1, 254]⟩
abbrev S2x4096x254 : Shape := ⟨3, ![2, 4096, 254]⟩
abbrev S1x1x9216 : Shape := ⟨3, ![1, 1, 9216]⟩
abbrev S8192x9216 : Shape := ⟨2, ![8192, 9216]⟩
abbrev S8192x3072 : Shape := ⟨2, ![8192, 3072]⟩

abbrev nBuf : Space → Nat
  | .hbm => 11
  | .vmem => 9
  | .smem => 0
  | _ => 0

abbrev bufTy : (tb : Table) → Fin (tcTables nBuf tb) → BufTy
  | .hbm, ⟨0, _⟩ => ⟨S2x4096x3072, .bf16⟩
  | .hbm, ⟨1, _⟩ => ⟨S2x3072, .f32⟩
  | .hbm, ⟨2, _⟩ => ⟨S2x3072, .f32⟩
  | .hbm, ⟨3, _⟩ => ⟨S3072x9216, .fp8e4m3⟩
  | .hbm, ⟨4, _⟩ => ⟨S9216, .f32⟩
  | .hbm, ⟨5, _⟩ => ⟨S9216, .f32⟩
  | .hbm, ⟨6, _⟩ => ⟨S2x4096x9216, .bf16⟩
  | .hbm, ⟨7, _⟩ => ⟨S2x4096x3072, .fp8e4m3⟩
  | .hbm, ⟨8, _⟩ => ⟨S2x4096, .f32⟩
  | .hbm, ⟨9, _⟩ => ⟨S8192x9216, .bf16⟩
  | .hbm, ⟨10, _⟩ => ⟨S8192x3072, .fp8e4m3⟩
  | .local _ .vmem, ⟨0, _⟩ => ⟨S2x4096x3072, .bf16⟩
  | .local _ .vmem, ⟨1, _⟩ => ⟨S2x3072, .f32⟩
  | .local _ .vmem, ⟨2, _⟩ => ⟨S2x3072, .f32⟩
  | .local _ .vmem, ⟨3, _⟩ => ⟨S3072x9216, .fp8e4m3⟩
  | .local _ .vmem, ⟨4, _⟩ => ⟨S9216, .f32⟩
  | .local _ .vmem, ⟨5, _⟩ => ⟨S9216, .f32⟩
  | .local _ .vmem, ⟨6, _⟩ => ⟨S2x4096x9216, .bf16⟩
  | .local _ .vmem, ⟨7, _⟩ => ⟨S2x4096x3072, .fp8e4m3⟩
  | .local _ .vmem, ⟨8, _⟩ => ⟨S2x4096, .f32⟩
  | _, _ => ⟨S2x4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S2x4096x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3072x9216 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S9216 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S9216 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x4096x9216 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x4096x3072 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.KernelFrame.lean ====
/-
  The kernel at any float values: its body runs from whole staging buffers at any contents and hands the six inputs
  back as they were, and the whole program, run from any memory with zero counters, ends with its arguments unchanged
  and every counter at zero. What the three results hold is not said here.
-/
module

public import proofs.«01_k».proof.Proof.Gen.Kernel.Frame
public import proofs.«01_k».proof.Proof.Gen.Kernel.Skeleton

@[expose] public section

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The row of the modulation the grid point reads: its sample, the point's number over 16. -/
theorem off1_eq (i : grid0.Coords) : k0_off1 i = ![(i 0).val / 16, 0] := by
  unfold k0_off1
  generalize i 0 = j
  revert j
  show ∀ j : Fin 32, _
  decide +kernel

/-- The columns of the resident scale array the grid point writes first. -/
theorem off2a_eq (i : grid0.Coords) : k0_off2 i 0#32 = ![0, 256 * ((i 0).val % 16)] := by
  unfold k0_off2
  generalize i 0 = j
  revert j
  show ∀ j : Fin 32, _
  decide +kernel

/-- The columns it writes second. -/
theorem off2b_eq (i : grid0.Coords) : k0_off2 i 128#32 = ![0, 256 * ((i 0).val % 16) + 128] := by
  unfold k0_off2
  generalize i 0 = j
  revert j
  show ∀ j : Fin 32, _
  decide +kernel

instance (i : grid0.Coords) : ClosedOff (k0_off1 i) := ⟨![(i 0).val / 16, 0], off1_eq i⟩
instance (i : grid0.Coords) : ClosedOff (k0_off2 i 0#32) := ⟨![0, 256 * ((i 0).val % 16)], off2a_eq i⟩
instance (i : grid0.Coords) : ClosedOff (k0_off2 i 128#32) := ⟨![0, 256 * ((i 0).val % 16) + 128], off2b_eq i⟩

/-- The body on whole staging memrefs, the inputs' at `x0 … x5` and the outputs' at anything, runs to the continuation
    holding the inputs' as they were and the outputs' at something. -/
theorem sound_kernel (c : Dev nD) (E : Set ℕ) (i : grid0.Coords) (arg1 : Memref sig .tc .vmem S256x3072 .bf16) (harg1 : arg1.IsWhole) (arg2 : Memref sig .tc .vmem S2x3072 .f32) (harg2 : arg2.IsWhole) (arg3 : Memref sig .tc .vmem S2x3072 .f32) (harg3 : arg3.IsWhole) (arg4 : Memref sig .tc .vmem S3072x9216 .fp8e4m3) (harg4 : arg4.IsWhole) (arg5 : Memref sig .tc .vmem S1x9216 .f32) (harg5 : arg5.IsWhole) (arg6 : Memref sig .tc .vmem S1x9216 .f32) (harg6 : arg6.IsWhole) (arg7 : Memref sig .tc .vmem S256x9216 .bf16) (harg7 : arg7.IsWhole) (arg8 : Memref sig .tc .vmem S256x3072 .fp8e4m3) (harg8 : arg8.IsWhole) (arg9 : Memref sig .tc .vmem S2x4096 .f32) (harg9 : arg9.IsWhole)
    (x0 : Vec F S256x3072 .bf16) (x1 : Vec F S2x3072 .f32) (x2 : Vec F S2x3072 .f32) (x3 : Vec F S3072x9216 .fp8e4m3) (x4 : Vec F S1x9216 .f32) (x5 : Vec F S1x9216 .f32) (d6 : Vec F S256x9216 .bf16) (d7 : Vec F S256x3072 .fp8e4m3) (d8 : Vec F S2x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare d6 ∗ owns (c : Thread nD τ) arg8 fullShare d7 ∗ owns (c : Thread nD τ) arg9 fullShare d8
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)) -∗ K ⟨⟩))
      ⊢ wp frame (wpE (defs₀ (F := F)) Variants.none c none) E (cc0_adaln_fp8_linear i arg1 harg1 arg2 harg2 arg3 harg3 arg4 harg4 arg5 harg5 arg6 harg6 arg7 harg7 arg8 harg8 arg9 harg9) K := by
  simp only [cc0_adaln_fp8_linear_eq_skeleton]; unfold cc0_adaln_fp8_linear_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, -, H6⟩, ⟨%f7, -, H7⟩, ⟨%f8, %hf8, H8⟩, Hk⟩
  subst hf0 hf1 hf2 hf3 hf4 hf5 hf8
  sl_exec_parts
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; iexists _; isplitr
    swap; · iexact H6
    ipureintro; rfl
  isplitl [H7]
  · iexists _; iexists _; isplitr
    swap; · iexact H7
    ipureintro; rfl
  · iexists _; iexists _; isplitr
    swap; · iexact H8
    ipureintro; rfl

variable (m : (ℓ : Loc nD τ sig) → Buf (Elt F) ℓ) (ρ : Dev nD → PrngReg)

/-- The pipeline's data: the arrays are what the region finds; what the body leaves in a buffer is not constrained. -/
def rdat (c : Dev nD) : Pipeline.RDat τ (Elt F) Unit ℕ (UR sig nD τ) ℕ cfg0 c where
  A w := V m c (Pipeline.arrRef spec0 w)
  after _ _ _ _ := True
  Φ _ := Pipeline.ΦA spec0 c
  q _ := fullShare
  owed _ := 0

theorem A_eq (c : Dev nD) (w : Fin cfg0.W) : (rdat m c).A w = V m c (Pipeline.arrRef spec0 w) := by
  dsimp only [rdat]

theorem defs₀_row (t : Fin cfg0.N) : defs₀ (F := F) .tc cfg0.body (cfg0.bodyArgs t (cfg0.slots t)) = bodyAt0 t := by
  unfold defs₀; rw [Defs.onTc_tc]

/-- The body at a point, from its buffers at any contents. -/
theorem sound_body (c : Dev nD) (t : Fin cfg0.N) (Y : (w : Fin cfg0.W) → (cfg0.win w).block.Idx → Elt F (cfg0.win w).elt) :
    iprop((rdat m c).Φ t.castSucc ∗ (rdat m c).owesAt () t.castSucc ∗ owns (c : Thread nD τ) (st0_0 t) fullShare (Y 0) ∗ owns (c : Thread nD τ) (st0_1 t) fullShare (Y 1) ∗ owns (c : Thread nD τ) (st0_2 t) fullShare (Y 2) ∗ owns (c : Thread nD τ) (st0_3 t) fullShare (Y 3) ∗ owns (c : Thread nD τ) (st0_4 t) fullShare (Y 4) ∗ owns (c : Thread nD τ) (st0_5 t) fullShare (Y 5) ∗ owns (c : Thread nD τ) (st0_6 t) fullShare (Y 6) ∗ owns (c : Thread nD τ) (st0_7 t) fullShare (Y 7) ∗ owns (c : Thread nD τ) (st0_8 t) fullShare (Y 8))
      ⊢ wp frame (wpE (defs₀ (F := F)) Variants.none c none) Set.univ (bodyAt0 t) (fun _ =>
        iprop((rdat m c).Φ t.succ ∗ (rdat m c).owesAt () t.succ ∗ (∃ X, ⌜(rdat m c).after 0 t (Y 0) X⌝ ∗ owns (c : Thread nD τ) (st0_0 t) fullShare X) ∗ (∃ X, ⌜(rdat m c).after 1 t (Y 1) X⌝ ∗ owns (c : Thread nD τ) (st0_1 t) fullShare X) ∗ (∃ X, ⌜(rdat m c).after 2 t (Y 2) X⌝ ∗ owns (c : Thread nD τ) (st0_2 t) fullShare X) ∗ (∃ X, ⌜(rdat m c).after 3 t (Y 3) X⌝ ∗ owns (c : Thread nD τ) (st0_3 t) fullShare X) ∗ (∃ X, ⌜(rdat m c).after 4 t (Y 4) X⌝ ∗ owns (c : Thread nD τ) (st0_4 t) fullShare X) ∗ (∃ X, ⌜(rdat m c).after 5 t (Y 5) X⌝ ∗ owns (c : Thread nD τ) (st0_5 t) fullShare X) ∗ (∃ X, ⌜(rdat m c).after 6 t (Y 6) X⌝ ∗ owns (c : Thread nD τ) (st0_6 t) fullShare X) ∗ (∃ X, ⌜(rdat m c).after 7 t (Y 7) X⌝ ∗ owns (c : Thread nD τ) (st0_7 t) fullShare X) ∗ (∃ X, ⌜(rdat m c).after 8 t (Y 8) X⌝ ∗ owns (c : Thread nD τ) (st0_8 t) fullShare X))) := by
  unfold bodyAt0
  rw [show (rdat m c).Φ t.succ = (rdat m c).Φ t.castSucc from rfl,
    show (rdat m c).owesAt () t.succ = (rdat m c).owesAt () t.castSucc from rfl]
  iintro ⟨HΦ, Ho, H0, H1, H2, H3, H4, H5, H6, H7, H8⟩
  iapply (sound_kernel c Set.univ _ _ _ _ _ _ _ _ _ _ _ _ _ _ _ _ _ _ _ (Y 0) (Y 1) (Y 2) (Y 3) (Y 4) (Y 5) (Y 6) (Y 7) (Y 8) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H0, H1, H2, H3, H4, H5, ⟨%d6, H6⟩, ⟨%d7, H7⟩, ⟨%d8, H8⟩⟩
  isplitl [HΦ]; · iexact HΦ
  isplitl [Ho]; · iexact Ho
  isplitl [H0]
  · iexists (Y 0); isplitr; · ipureintro; trivial
    iexact H0
  isplitl [H1]
  · iexists (Y 1); isplitr; · ipureintro; trivial
    iexact H1
  isplitl [H2]
  · iexists (Y 2); isplitr; · ipureintro; trivial
    iexact H2
  isplitl [H3]
  · iexists (Y 3); isplitr; · ipureintro; trivial
    iexact H3
  isplitl [H4]
  · iexists (Y 4); isplitr; · ipureintro; trivial
    iexact H4
  isplitl [H5]
  · iexists (Y 5); isplitr; · ipureintro; trivial
    iexact H5
  isplitl [H6]
  · iexists (d6); isplitr; · ipureintro; trivial
    iexact H6
  isplitl [H7]
  · iexists (d7); isplitr; · ipureintro; trivial
    iexact H7
  · iexists (d8); isplitr; · ipureintro; trivial
    iexact H8

theorem body_obligation (c : Dev nD) : (rdat (F := F) m c).BodyObligation (defs₀ (F := F)) Variants.none () Set.univ := fun t Y _ => by
  rw [bigSep_W0, bigSep_W0, defs₀_row]
  exact triple_restated (sound_body m c t Y) rfl .rfl fun _ => .rfl

set_option backward.isDefEq.respectTransparency.types false in
set_option maxHeartbeats 800000 in
/-- The whole program, and every counter of the machine at zero at every final state. -/
theorem run_main_quiescent : θ_run defs (onTc (τ := τ) (main (F := F))) (s₀ m ρ)
    (fun r => Pipeline.RDat.FramePost cfg0 (rdat m) (V m) r ∧ r.2.sem = fun _ => 0) :=
  Pipeline.RDat.θ_run_frame (Q' := _) cfgs (0 : Fin 1) launch0 defs₀ Variants.none (rdat m) m ρ main
    (hbody := body_obligation m) (hshare := fun c => (rdat m c).share_full fun _ => rfl)
    (howed := fun _ _ => rfl) (V := V m)
    (hmain := hmain m Variants.none) (hA := A_eq m) (hΦ := fun _ _ => rfl)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨
      ((h.1 c).2 main_arg0 (Pipeline.mem_restRefs_of main_arg0 (by decide) (by decide))).trans (V_main_arg0 m c),
      (h.1.arr_in c 1 rfl).trans ((A_eq m c 1).trans (V_main_arg1 m c)),
      (h.1.arr_in c 2 rfl).trans ((A_eq m c 2).trans (V_main_arg2 m c)),
      (h.1.arr_in c 3 rfl).trans ((A_eq m c 3).trans (V_main_arg3 m c)),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩)
    (run_main_quiescent m ρ)

end Cert.Kernel.Hand

end
-- ==== Proof.IdealFrame.lean ====
/-
  The idealized kernel, at any float values: what one grid point computes from its blocks (the codes of its 256 rows,
  their scales, the product's block, the scale array it updates), its body's triple stating just that, and the run of
  the whole program with those contents in its arrays.
-/
module

public import proofs.«01_k».proof.Proof.Gen.KernelIdeal.Frame
public import proofs.«01_k».proof.Proof.Gen.KernelIdeal.Skeleton
public import Idealize.ShloMosaic.Lib.Pointwise.Index

@[expose] public section

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The row of the modulation the grid point reads: its sample, the point's number over 16. -/
theorem off1_eq (i : grid0.Coords) : k0_off1 i = ![(i 0).val / 16, 0] := by
  unfold k0_off1
  generalize i 0 = j
  revert j
  show ∀ j : Fin 32, _
  decide +kernel

/-- The columns of the resident scale array the grid point writes first. -/
theorem off2a_eq (i : grid0.Coords) : k0_off2 i 0#32 = ![0, 256 * ((i 0).val % 16)] := by
  unfold k0_off2
  generalize i 0 = j
  revert j
  show ∀ j : Fin 32, _
  decide +kernel

/-- The columns it writes second. -/
theorem off2b_eq (i : grid0.Coords) : k0_off2 i 128#32 = ![0, 256 * ((i 0).val % 16) + 128] := by
  unfold k0_off2
  generalize i 0 = j
  revert j
  show ∀ j : Fin 32, _
  decide +kernel

instance (i : grid0.Coords) : ClosedOff (k0_off1 i) := ⟨![(i 0).val / 16, 0], off1_eq i⟩
instance (i : grid0.Coords) : ClosedOff (k0_off2 i 0#32) := ⟨![0, 256 * ((i 0).val % 16)], off2a_eq i⟩
instance (i : grid0.Coords) : ClosedOff (k0_off2 i 128#32) := ⟨![0, 256 * ((i 0).val % 16) + 128], off2b_eq i⟩

/-! ## What one grid point computes, as functions of its blocks -/

/-- The `k`-th group of 32 rows of a block of 256. -/
def rowR (k : Fin 8) : Rect S256x3072 :=
  Rect.unit (s := S256x3072) ![32 * k.val, 0] S32x3072.size (by revert k; decide)

/-- The `j`-th group of 512 columns of the weights. -/
def colW (j : Fin 18) : Rect S3072x9216 :=
  Rect.unit (s := S3072x9216) ![0, 512 * j.val] S3072x512.size (by revert j; decide)

/-- The `j`-th group of 512 columns of a row of 9216. -/
def colS (j : Fin 18) : Rect S1x9216 :=
  Rect.unit (s := S1x9216) ![0, 512 * j.val] S1x512.size (by revert j; decide)

/-- The `j`-th group of 512 columns of the product's block. -/
def colY (j : Fin 18) : Rect S256x9216 :=
  Rect.unit (s := S256x9216) ![0, 512 * j.val] S256x512.size (by revert j; decide)

/-- The modulation row of the point's sample. -/
def modR (i : grid0.Coords) : Rect S2x3072 := Rect.unit (s := S2x3072) (k0_off1 i) S1x3072.size (k0_off1_inb i)

/-- The exponent fields the search finds for a group of rows. -/
def fieldG (xg : Vec F S32x3072 .bf16) (ms sh : Vec F S1x3072 .f32) : IVec S32x128 32 :=
  k0_pay10 (k0_pay7 (k0_pay2 ms) sh (k0_pay4 xg) (k0_pay5 xg)) (k0_pay8 (k0_pay2 ms) sh (k0_pay4 xg) (k0_pay5 xg))
    (k0_pay9 (k0_pay2 ms) sh (k0_pay4 xg) (k0_pay5 xg))

/-- Which fields are zero. -/
def isZeroG (xg : Vec F S32x3072 .bf16) (ms sh : Vec F S1x3072 .f32) : IVec S32x128 1 :=
  cmpi .eq (fieldG xg ms sh) (broadcast S32x128 0#32)

/-- Which fields are all ones. -/
def isTopG (xg : Vec F S32x3072 .bf16) (ms sh : Vec F S1x3072 .f32) : IVec S32x128 1 :=
  cmpi .eq (fieldG xg ms sh) (broadcast S32x128 255#32)

/-- The codes of a group of rows. -/
def codesG (xg : Vec F S32x3072 .bf16) (ms sh : Vec F S1x3072 .f32) : FVec F S32x3072 .fp8e4m3 :=
  k0_pay14 (k0_pay6 (k0_pay2 ms) sh (k0_pay4 xg) (k0_pay5 xg)) (fieldG xg ms sh) (isZeroG xg ms sh) (isTopG xg ms sh)

/-- The scales of a group of rows, one row of equal entries each. -/
def scaleG (xg : Vec F S32x3072 .bf16) (ms sh : Vec F S1x3072 .f32) : FVec F S32x128 .f32 :=
  k0_pay15 (fieldG xg ms sh) (isZeroG xg ms sh) (isTopG xg ms sh)

/-- The codes of the block. -/
def codesB (x0 : Vec F S256x3072 .bf16) (ms sh : Vec F S1x3072 .f32) : Vec F S256x3072 .fp8e4m3 := fun y =>
  codesG (View.ld x0 (rowR ⟨(y 0).val / 32, by have : (y 0).val < 256 := (y 0).isLt; omega⟩)) ms sh
    (ix2 ⟨(y 0).val % 32, Nat.mod_lt _ (by decide)⟩ (y 1))

/-- The scales of the block. -/
def scaleB (x0 : Vec F S256x3072 .bf16) (ms sh : Vec F S1x3072 .f32) : FVec F S256x128 .f32 :=
  concatenate S256x128 0 (List.ofFn fun k : Fin 8 => (⟨S32x128, scaleG (View.ld x0 (rowR k)) ms sh⟩ : (s : Shape) × (s.Idx → F .f32)))
    concatenates_S32x128_S32x128_S32x128_S32x128_S32x128_S32x128_S32x128_S32x128_S256x128_d0

/-- The product's block. -/
def yB (cd : Vec F S256x3072 .fp8e4m3) (sc : FVec F S256x128 .f32) (w : Vec F S3072x9216 .fp8e4m3) (ws b : Vec F S1x9216 .f32) :
    Vec F S256x9216 .bf16 := fun y =>
  k0_pay98 sc (k0_pay97 cd) (View.ld w (colW ⟨(y 1).val / 512, by have : (y 1).val < 9216 := (y 1).isLt; omega⟩)) (constant S256x512 .f32 0x00000000#32)
    (View.ld ws (colS ⟨(y 1).val / 512, by have : (y 1).val < 9216 := (y 1).isLt; omega⟩))
    (View.ld b (colS ⟨(y 1).val / 512, by have : (y 1).val < 9216 := (y 1).isLt; omega⟩))
    (ix2 (y 0) ⟨(y 1).val % 512, Nat.mod_lt _ (by decide)⟩)

/-- The scale array after the point: 256 columns of the point's sample's row hold the block's scales, the rest what it was. -/
def stepB (i : grid0.Coords) (sc : FVec F S256x128 .f32) (Y : Vec F S2x4096 .f32) : Vec F S2x4096 .f32 := fun y =>
  if h : 256 * ((i 0).val % 16) + 128 ≤ (y 1).val ∧ (y 1).val < 256 * ((i 0).val % 16) + 256 then
    k0_pay96 (BitVec.ofNat 32 ((i 0).val / 16)) k0_pay3 sc (View.ld Y (Rect.unit (s := S2x4096) (k0_off2 i 128#32) S2x128.size (k0_off2_inb i 1)))
      (ix2 (y 0) ⟨(y 1).val - (256 * ((i 0).val % 16) + 128), by omega⟩)
  else if h : 256 * ((i 0).val % 16) ≤ (y 1).val ∧ (y 1).val < 256 * ((i 0).val % 16) + 128 then
    k0_pay95 (BitVec.ofNat 32 ((i 0).val / 16)) k0_pay3 sc (View.ld Y (Rect.unit (s := S2x4096) (k0_off2 i 0#32) S2x128.size (k0_off2_inb i 0)))
      (ix2 (y 0) ⟨(y 1).val - 256 * ((i 0).val % 16), by omega⟩)
  else Y y

theorem codesB_emb (x0 : Vec F S256x3072 .bf16) (ms sh : Vec F S1x3072 .f32) (k : Fin 8) (x : (rowR k).shape.Idx) :
    codesG (View.ld x0 (rowR k)) ms sh x = codesB x0 ms sh ((rowR k).emb x) := by
  unfold codesB
  have h0 : (((rowR k).emb x) 0).val = 32 * k.val + 1 * (x 0).val := rfl
  have h1 : (((rowR k).emb x) 1).val = 0 + 1 * (x 1).val := rfl
  have hx : (x 0).val < 32 := (x 0).isLt
  have hk : (⟨(((rowR k).emb x) 0).val / 32, by omega⟩ : Fin 8) = k := Fin.ext (by show (((rowR k).emb x) 0).val / 32 = _; omega)
  rw [hk]
  congr 1
  funext a
  fin_cases a
  · exact Fin.ext (by show (x 0).val = (((rowR k).emb x) 0).val % 32; omega)
  · exact Fin.ext (by show (x 1).val = (((rowR k).emb x) 1).val; omega)

theorem yB_emb (cd : Vec F S256x3072 .fp8e4m3) (sc : FVec F S256x128 .f32) (w : Vec F S3072x9216 .fp8e4m3) (ws b : Vec F S1x9216 .f32)
    (j : Fin 18) (x : (colY j).shape.Idx) :
    k0_pay98 sc (k0_pay97 cd) (View.ld w (colW j)) (constant S256x512 .f32 0x00000000#32) (View.ld ws (colS j)) (View.ld b (colS j)) x
      = yB cd sc w ws b ((colY j).emb x) := by
  unfold yB
  have h0 : (((colY j).emb x) 0).val = 0 + 1 * (x 0).val := rfl
  have h1 : (((colY j).emb x) 1).val = 512 * j.val + 1 * (x 1).val := rfl
  have hx : (x 1).val < 512 := (x 1).isLt
  have hk : (⟨(((colY j).emb x) 1).val / 512, by omega⟩ : Fin 18) = j := Fin.ext (by show (((colY j).emb x) 1).val / 512 = _; omega)
  rw [hk]
  congr 1
  funext a
  fin_cases a
  · exact Fin.ext (by show (x 0).val = (((colY j).emb x) 0).val; omega)
  · exact Fin.ext (by show (x 1).val = (((colY j).emb x) 1).val % 512; omega)

/-- The two stripe stores of the scale array, read back. -/
theorem read_stripes (arg9 : Memref sig .tc .vmem S2x4096 .f32) (f : arg9.view.ty.Contents (Elt F)) (i : grid0.Coords) (sc : FVec F S256x128 .f32)
    (hB : ∀ a, k0_off2 i 128#32 a + S2x128.size a ≤ S2x4096.size a) (hA : ∀ a, k0_off2 i 0#32 a + S2x128.size a ≤ S2x4096.size a) :
    arg9.view.read (Elt F) (arg9.view.writes (Elt F) f
      [⟨Rect.unit (s := S2x4096) (k0_off2 i 128#32) S2x128.size hB, k0_pay96 (BitVec.ofNat 32 ((i 0).val / 16)) k0_pay3 sc
          (View.ld (arg9.view.read (Elt F) f) (Rect.unit (s := S2x4096) (k0_off2 i 128#32) S2x128.size hB))⟩,
       ⟨Rect.unit (s := S2x4096) (k0_off2 i 0#32) S2x128.size hA, k0_pay95 (BitVec.ofNat 32 ((i 0).val / 16)) k0_pay3 sc
          (View.ld (arg9.view.read (Elt F) f) (Rect.unit (s := S2x4096) (k0_off2 i 0#32) S2x128.size hA))⟩])
      = stepB i sc (arg9.view.read (Elt F) f) := by
  have mB : ∀ y : S2x4096.Idx, y ∈ (Rect.unit (s := S2x4096) (k0_off2 i 128#32) S2x128.size hB).set ↔
      256 * ((i 0).val % 16) + 128 ≤ (y 1).val ∧ (y 1).val < 256 * ((i 0).val % 16) + 256 := fun y => by
    rw [Rect.mem_set_unit, Fin.forall_fin_two, off2b_eq]
    have : (y 0).val < 2 := (y 0).isLt
    show (0 ≤ (y 0).val ∧ (y 0).val < 0 + 2) ∧ (256 * ((i 0).val % 16) + 128 ≤ (y 1).val ∧ (y 1).val < 256 * ((i 0).val % 16) + 128 + 128) ↔ _
    omega
  have mA : ∀ y : S2x4096.Idx, y ∈ (Rect.unit (s := S2x4096) (k0_off2 i 0#32) S2x128.size hA).set ↔
      256 * ((i 0).val % 16) ≤ (y 1).val ∧ (y 1).val < 256 * ((i 0).val % 16) + 128 := fun y => by
    rw [Rect.mem_set_unit, Fin.forall_fin_two, off2a_eq]
    have : (y 0).val < 2 := (y 0).isLt
    show (0 ≤ (y 0).val ∧ (y 0).val < 0 + 2) ∧ (256 * ((i 0).val % 16) ≤ (y 1).val ∧ (y 1).val < 256 * ((i 0).val % 16) + 128) ↔ _
    omega
  funext y
  unfold stepB
  split_ifs with h1 h2
  · have hy : y = (Rect.unit (s := S2x4096) (k0_off2 i 128#32) S2x128.size hB).emb
        (ix2 (y 0) ⟨(y 1).val - (256 * ((i 0).val % 16) + 128), by omega⟩) := by
      funext a; apply Fin.ext
      rw [Rect.emb_apply]
      fin_cases a
      · show (y 0).val = k0_off2 i 128#32 0 + 1 * (y 0).val
        rw [off2b_eq]; show _ = 0 + _; omega
      · show (y 1).val = k0_off2 i 128#32 1 + 1 * ((y 1).val - (256 * ((i 0).val % 16) + 128))
        rw [off2b_eq]; show _ = 256 * ((i 0).val % 16) + 128 + _; omega
    conv_lhs => rw [hy]
    exact View.read_writes_cons_emb _ _ _ _ _ _
  · rw [View.writes_cons, View.read_slice_write_of_not_mem _ _ _ _ (by rw [Rect.map_emb_univ, mB]; exact h1)]
    have hy : y = (Rect.unit (s := S2x4096) (k0_off2 i 0#32) S2x128.size hA).emb
        (ix2 (y 0) ⟨(y 1).val - 256 * ((i 0).val % 16), by omega⟩) := by
      funext a; apply Fin.ext
      rw [Rect.emb_apply]
      fin_cases a
      · show (y 0).val = k0_off2 i 0#32 0 + 1 * (y 0).val
        rw [off2a_eq]; show _ = 0 + _; omega
      · show (y 1).val = k0_off2 i 0#32 1 + 1 * ((y 1).val - 256 * ((i 0).val % 16))
        rw [off2a_eq]; show _ = 256 * ((i 0).val % 16) + _; omega
    conv_lhs => rw [hy]
    exact View.read_writes_cons_emb _ _ _ _ _ _
  · exact View.read_writes_apply_of_forall_not_mem _ _ y _ (List.forall_mem_cons.2 ⟨fun h => h1 ((mB y).mp h),
      List.forall_mem_cons.2 ⟨fun h => h2 ((mA y).mp h), fun _ h => absurd h List.not_mem_nil⟩⟩)

/-- The body on whole staging memrefs, the inputs' at `x0 … x5` and the outputs' at anything, runs to the continuation
    holding the inputs' as they were, the product's and the codes' at the block's, and the scale array updated. -/
theorem sound_kernel (c : Dev nD) (E : Set ℕ) (i : grid0.Coords) (arg1 : Memref sig .tc .vmem S256x3072 .bf16) (harg1 : arg1.IsWhole) (arg2 : Memref sig .tc .vmem S2x3072 .f32) (harg2 : arg2.IsWhole) (arg3 : Memref sig .tc .vmem S2x3072 .f32) (harg3 : arg3.IsWhole) (arg4 : Memref sig .tc .vmem S3072x9216 .fp8e4m3) (harg4 : arg4.IsWhole) (arg5 : Memref sig .tc .vmem S1x9216 .f32) (harg5 : arg5.IsWhole) (arg6 : Memref sig .tc .vmem S1x9216 .f32) (harg6 : arg6.IsWhole) (arg7 : Memref sig .tc .vmem S256x9216 .bf16) (harg7 : arg7.IsWhole) (arg8 : Memref sig .tc .vmem S256x3072 .fp8e4m3) (harg8 : arg8.IsWhole) (arg9 : Memref sig .tc .vmem S2x4096 .f32) (harg9 : arg9.IsWhole)
    (x0 : Vec F S256x3072 .bf16) (x1 : Vec F S2x3072 .f32) (x2 : Vec F S2x3072 .f32) (x3 : Vec F S3072x9216 .fp8e4m3) (x4 : Vec F S1x9216 .f32) (x5 : Vec F S1x9216 .f32) (d6 : Vec F S256x9216 .bf16) (d7 : Vec F S256x3072 .fp8e4m3) (d8 : Vec F S2x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare d6 ∗ owns (c : Thread nD τ) arg8 fullShare d7 ∗ owns (c : Thread nD τ) arg9 fullShare d8
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (yB (codesB x0 (View.ld x1 (modR i)) (View.ld x2 (modR i))) (scaleB x0 (View.ld x1 (modR i)) (View.ld x2 (modR i))) x3 x4 x5) ∗ owns (c : Thread nD τ) arg8 fullShare (codesB x0 (View.ld x1 (modR i)) (View.ld x2 (modR i))) ∗ owns (c : Thread nD τ) arg9 fullShare (stepB i (scaleB x0 (View.ld x1 (modR i)) (View.ld x2 (modR i))) d8)) -∗ K ⟨⟩))
      ⊢ wp frame (wpE (defs₀ (F := F)) Variants.none c none) E (cc0_adaln_fp8_linear i arg1 harg1 arg2 harg2 arg3 harg3 arg4 harg4 arg5 harg5 arg6 harg6 arg7 harg7 arg8 harg8 arg9 harg9) K := by
  simp only [cc0_adaln_fp8_linear_eq_skeleton]; unfold cc0_adaln_fp8_linear_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, -, H6⟩, ⟨%f7, -, H7⟩, ⟨%f8, %hf8, H8⟩, Hk⟩
  subst hf0 hf1 hf2 hf3 hf4 hf5 hf8
  sl_exec_parts
  sl_step
  have p7 : ∀ p ∈ sound_kernel.sl.H7_8 c i arg1 arg2 arg3 f0 f1 f2, ∀ x : p.1.shape.Idx, p.2 x = codesB (arg1.view.read (Elt F) f0) (View.ld (arg2.view.read (Elt F) f1) (modR i)) (View.ld (arg3.view.read (Elt F) f2) (modR i)) (p.1.emb x) := by
    unfold sound_kernel.sl.H7_8
    refine List.forall_mem_cons.2 ⟨fun x => codesB_emb _ _ _ 7 x, ?_⟩
    unfold sound_kernel.sl.H7_7
    refine List.forall_mem_cons.2 ⟨fun x => codesB_emb _ _ _ 6 x, ?_⟩
    unfold sound_kernel.sl.H7_6
    refine List.forall_mem_cons.2 ⟨fun x => codesB_emb _ _ _ 5 x, ?_⟩
    unfold sound_kernel.sl.H7_5
    refine List.forall_mem_cons.2 ⟨fun x => codesB_emb _ _ _ 4 x, ?_⟩
    unfold sound_kernel.sl.H7_4
    refine List.forall_mem_cons.2 ⟨fun x => codesB_emb _ _ _ 3 x, ?_⟩
    unfold sound_kernel.sl.H7_3
    refine List.forall_mem_cons.2 ⟨fun x => codesB_emb _ _ _ 2 x, ?_⟩
    unfold sound_kernel.sl.H7_2
    refine List.forall_mem_cons.2 ⟨fun x => codesB_emb _ _ _ 1 x, ?_⟩
    unfold sound_kernel.sl.H7_1
    refine List.forall_mem_cons.2 ⟨fun x => codesB_emb _ _ _ 0 x, ?_⟩
    exact fun _ h => absurd h List.not_mem_nil
  have c7 : ∀ y, ∃ p ∈ sound_kernel.sl.H7_8 c i arg1 arg2 arg3 f0 f1 f2, y ∈ p.1.set := View.cover_of_tiled _ S32x3072.size (by sl_kernel_rfl)
  have e7 : sound_kernel.sl.v1138 c i arg1 arg2 arg3 arg8 f0 f1 f2 = codesB (arg1.view.read (Elt F) f0) (View.ld (arg2.view.read (Elt F) f1) (modR i)) (View.ld (arg3.view.read (Elt F) f2) (modR i)) := by
    funext y
    unfold sound_kernel.sl.v1138
    refine (View.read_writes_apply_of_pieces _ _ _ _ p7 _ (c7 _)).trans ?_
    refine congrArg _ (funext fun a => Fin.ext ?_)
    show ![0, 0] a + 1 * (y a).val = (y a).val
    fin_cases a <;> simp
  have e16 : sound_kernel.sl.v16 i = BitVec.ofNat 32 ((i 0).val / 16) := by
    sl_unfold_run_names
    generalize i 0 = j
    revert j
    show ∀ j : Fin 32, _
    decide +kernel
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    rw [← e7]
    funext y
    refine View.read_writes_apply_of_pieces _ _ _ _ ?_ y (View.cover_of_tiled (s := S256x9216) _ S256x512.size (by sl_kernel_rfl) y)
    try unfold sound_kernel.sl.H6_18
    refine List.forall_mem_cons.2 ⟨fun x => yB_emb _ _ _ _ _ 17 x, ?_⟩
    try unfold sound_kernel.sl.H6_17
    refine List.forall_mem_cons.2 ⟨fun x => yB_emb _ _ _ _ _ 16 x, ?_⟩
    try unfold sound_kernel.sl.H6_16
    refine List.forall_mem_cons.2 ⟨fun x => yB_emb _ _ _ _ _ 15 x, ?_⟩
    try unfold sound_kernel.sl.H6_15
    refine List.forall_mem_cons.2 ⟨fun x => yB_emb _ _ _ _ _ 14 x, ?_⟩
    try unfold sound_kernel.sl.H6_14
    refine List.forall_mem_cons.2 ⟨fun x => yB_emb _ _ _ _ _ 13 x, ?_⟩
    try unfold sound_kernel.sl.H6_13
    refine List.forall_mem_cons.2 ⟨fun x => yB_emb _ _ _ _ _ 12 x, ?_⟩
    try unfold sound_kernel.sl.H6_12
    refine List.forall_mem_cons.2 ⟨fun x => yB_emb _ _ _ _ _ 11 x, ?_⟩
    try unfold sound_kernel.sl.H6_11
    refine List.forall_mem_cons.2 ⟨fun x => yB_emb _ _ _ _ _ 10 x, ?_⟩
    try unfold sound_kernel.sl.H6_10
    refine List.forall_mem_cons.2 ⟨fun x => yB_emb _ _ _ _ _ 9 x, ?_⟩
    try unfold sound_kernel.sl.H6_9
    refine List.forall_mem_cons.2 ⟨fun x => yB_emb _ _ _ _ _ 8 x, ?_⟩
    try unfold sound_kernel.sl.H6_8
    refine List.forall_mem_cons.2 ⟨fun x => yB_emb _ _ _ _ _ 7 x, ?_⟩
    try unfold sound_kernel.sl.H6_7
    refine List.forall_mem_cons.2 ⟨fun x => yB_emb _ _ _ _ _ 6 x, ?_⟩
    try unfold sound_kernel.sl.H6_6
    refine List.forall_mem_cons.2 ⟨fun x => yB_emb _ _ _ _ _ 5 x, ?_⟩
    try unfold sound_kernel.sl.H6_5
    refine List.forall_mem_cons.2 ⟨fun x => yB_emb _ _ _ _ _ 4 x, ?_⟩
    try unfold sound_kernel.sl.H6_4
    refine List.forall_mem_cons.2 ⟨fun x => yB_emb _ _ _ _ _ 3 x, ?_⟩
    try unfold sound_kernel.sl.H6_3
    refine List.forall_mem_cons.2 ⟨fun x => yB_emb _ _ _ _ _ 2 x, ?_⟩
    try unfold sound_kernel.sl.H6_2
    refine List.forall_mem_cons.2 ⟨fun x => yB_emb _ _ _ _ _ 1 x, ?_⟩
    try unfold sound_kernel.sl.H6_1
    refine List.forall_mem_cons.2 ⟨fun x => yB_emb _ _ _ _ _ 0 x, ?_⟩
    exact fun _ h => absurd h List.not_mem_nil
  isplitl [H7]
  · iexists _; isplitr
    swap; · iexact H7
    ipureintro
    funext y
    exact View.read_writes_apply_of_pieces _ _ _ _ p7 y (c7 y)
  · iexists _; isplitr
    swap; · iexact H8
    ipureintro
    refine Eq.trans ?_ (read_stripes arg9 f8 i (scaleB (arg1.view.read (Elt F) f0) (View.ld (arg2.view.read (Elt F) f1) (modR i)) (View.ld (arg3.view.read (Elt F) f2) (modR i))) (k0_off2_inb i 1) (k0_off2_inb i 0))
    rw [← e16]
    rfl

variable (m : (ℓ : Loc nD τ sig) → Buf (Elt F) ℓ) (ρ : Dev nD → PrngReg)

/-- The scales of the rows point `t` computes. -/
def scaleAt (c : Dev nD) (t : Fin cfg0.N) : FVec F S256x128 .f32 :=
  scaleB (iblk m c 0 t) (View.ld (iblk m c 1 t) (modR (grid0.coords t))) (View.ld (iblk m c 2 t) (modR (grid0.coords t)))

/-- The codes of the rows point `t` computes. -/
def codesAt (c : Dev nD) (t : Fin cfg0.N) : Vec F S256x3072 .fp8e4m3 :=
  codesB (iblk m c 0 t) (View.ld (iblk m c 1 t) (modR (grid0.coords t))) (View.ld (iblk m c 2 t) (modR (grid0.coords t)))

/-- The product's rows point `t` computes. -/
def yAt (c : Dev nD) (t : Fin cfg0.N) : Vec F S256x9216 .bf16 :=
  yB (codesAt m c t) (scaleAt m c t) (iblk m c 3 t) (iblk m c 4 t) (iblk m c 5 t)

/-- The pipeline's data: the arrays are what the region finds; the body keeps its inputs, leaves the product's and the
    codes' blocks, and updates the scale array it found. -/
def rdat (c : Dev nD) : Pipeline.RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun _ X => X = yAt m c t
    | ⟨7, _⟩ => fun _ X => X = codesAt m c t
    | ⟨8, _⟩ => fun Y X => X = stepB (grid0.coords t) (scaleAt m c t) Y
  Φ _ := Pipeline.ΦA spec0 c
  q _ := fullShare
  owed _ := 0

theorem A_eq (c : Dev nD) (w : Fin cfg0.W) : (rdat m c).A w = V m c (Pipeline.arrRef spec0 w) := by
  dsimp only [rdat]

theorem finds_0 (c : Dev nD) (t : Fin cfg0.N) (Y) (h : (rdat m c).Finds 0 t Y) : Y = iblk m c 0 t := by
  obtain ⟨d, rfl⟩ := (rdat m c).finds_in_eq_fetched 0 rfl (fun _ _ _ => rfl) (fun _ _ _ h => by dsimp only [rdat] at h; exact h) t Y h
  unfold Pipeline.RDat.fetched Pipeline.RDat.blockOf iblk; rw [A_eq]; try rfl
theorem finds_1 (c : Dev nD) (t : Fin cfg0.N) (Y) (h : (rdat m c).Finds 1 t Y) : Y = iblk m c 1 t := by
  obtain ⟨d, rfl⟩ := (rdat m c).finds_in_eq_fetched 1 rfl (fun _ _ _ => rfl) (fun _ _ _ h => by dsimp only [rdat] at h; exact h) t Y h
  unfold Pipeline.RDat.fetched Pipeline.RDat.blockOf iblk; rw [A_eq]; try rfl
theorem finds_2 (c : Dev nD) (t : Fin cfg0.N) (Y) (h : (rdat m c).Finds 2 t Y) : Y = iblk m c 2 t := by
  obtain ⟨d, rfl⟩ := (rdat m c).finds_in_eq_fetched 2 rfl (fun _ _ _ => rfl) (fun _ _ _ h => by dsimp only [rdat] at h; exact h) t Y h
  unfold Pipeline.RDat.fetched Pipeline.RDat.blockOf iblk; rw [A_eq]; try rfl
theorem finds_3 (c : Dev nD) (t : Fin cfg0.N) (Y) (h : (rdat m c).Finds 3 t Y) : Y = iblk m c 3 t := by
  obtain ⟨d, rfl⟩ := (rdat m c).finds_in_eq_fetched 3 rfl (fun _ _ _ => rfl) (fun _ _ _ h => by dsimp only [rdat] at h; exact h) t Y h
  unfold Pipeline.RDat.fetched Pipeline.RDat.blockOf iblk; rw [A_eq]; try rfl
theorem finds_4 (c : Dev nD) (t : Fin cfg0.N) (Y) (h : (rdat m c).Finds 4 t Y) : Y = iblk m c 4 t := by
  obtain ⟨d, rfl⟩ := (rdat m c).finds_in_eq_fetched 4 rfl (fun _ _ _ => rfl) (fun _ _ _ h => by dsimp only [rdat] at h; exact h) t Y h
  unfold Pipeline.RDat.fetched Pipeline.RDat.blockOf iblk; rw [A_eq]; try rfl
theorem finds_5 (c : Dev nD) (t : Fin cfg0.N) (Y) (h : (rdat m c).Finds 5 t Y) : Y = iblk m c 5 t := by
  obtain ⟨d, rfl⟩ := (rdat m c).finds_in_eq_fetched 5 rfl (fun _ _ _ => rfl) (fun _ _ _ h => by dsimp only [rdat] at h; exact h) t Y h
  unfold Pipeline.RDat.fetched Pipeline.RDat.blockOf iblk; rw [A_eq]; try rfl

theorem defs₀_row (t : Fin cfg0.N) : defs₀ (F := F) .tc cfg0.body (cfg0.bodyArgs t (cfg0.slots t)) = bodyAt0 t := by
  unfold defs₀; rw [Defs.onTc_tc]

/-- The body at a point, its input buffers at the point's blocks. -/
theorem sound_body (c : Dev nD) (t : Fin cfg0.N) (Y : (w : Fin cfg0.W) → (cfg0.win w).block.Idx → Elt F (cfg0.win w).elt)
    (h0 : Y 0 = iblk m c 0 t) (h1 : Y 1 = iblk m c 1 t) (h2 : Y 2 = iblk m c 2 t) (h3 : Y 3 = iblk m c 3 t) (h4 : Y 4 = iblk m c 4 t) (h5 : Y 5 = iblk m c 5 t) :
    iprop((rdat m c).Φ t.castSucc ∗ (rdat m c).owesAt () t.castSucc ∗ owns (c : Thread nD τ) (st0_0 t) fullShare (Y 0) ∗ owns (c : Thread nD τ) (st0_1 t) fullShare (Y 1) ∗ owns (c : Thread nD τ) (st0_2 t) fullShare (Y 2) ∗ owns (c : Thread nD τ) (st0_3 t) fullShare (Y 3) ∗ owns (c : Thread nD τ) (st0_4 t) fullShare (Y 4) ∗ owns (c : Thread nD τ) (st0_5 t) fullShare (Y 5) ∗ owns (c : Thread nD τ) (st0_6 t) fullShare (Y 6) ∗ owns (c : Thread nD τ) (st0_7 t) fullShare (Y 7) ∗ owns (c : Thread nD τ) (st0_8 t) fullShare (Y 8))
      ⊢ wp frame (wpE (defs₀ (F := F)) Variants.none c none) Set.univ (bodyAt0 t) (fun _ =>
        iprop((rdat m c).Φ t.succ ∗ (rdat m c).owesAt () t.succ ∗ (∃ X, ⌜(rdat m c).after 0 t (Y 0) X⌝ ∗ owns (c : Thread nD τ) (st0_0 t) fullShare X) ∗ (∃ X, ⌜(rdat m c).after 1 t (Y 1) X⌝ ∗ owns (c : Thread nD τ) (st0_1 t) fullShare X) ∗ (∃ X, ⌜(rdat m c).after 2 t (Y 2) X⌝ ∗ owns (c : Thread nD τ) (st0_2 t) fullShare X) ∗ (∃ X, ⌜(rdat m c).after 3 t (Y 3) X⌝ ∗ owns (c : Thread nD τ) (st0_3 t) fullShare X) ∗ (∃ X, ⌜(rdat m c).after 4 t (Y 4) X⌝ ∗ owns (c : Thread nD τ) (st0_4 t) fullShare X) ∗ (∃ X, ⌜(rdat m c).after 5 t (Y 5) X⌝ ∗ owns (c : Thread nD τ) (st0_5 t) fullShare X) ∗ (∃ X, ⌜(rdat m c).after 6 t (Y 6) X⌝ ∗ owns (c : Thread nD τ) (st0_6 t) fullShare X) ∗ (∃ X, ⌜(rdat m c).after 7 t (Y 7) X⌝ ∗ owns (c : Thread nD τ) (st0_7 t) fullShare X) ∗ (∃ X, ⌜(rdat m c).after 8 t (Y 8) X⌝ ∗ owns (c : Thread nD τ) (st0_8 t) fullShare X))) := by
  unfold bodyAt0
  rw [show (rdat m c).Φ t.succ = (rdat m c).Φ t.castSucc from rfl,
    show (rdat m c).owesAt () t.succ = (rdat m c).owesAt () t.castSucc from rfl]
  iintro ⟨HΦ, Ho, H0, H1, H2, H3, H4, H5, H6, H7, H8⟩
  iapply (sound_kernel c Set.univ _ _ _ _ _ _ _ _ _ _ _ _ _ _ _ _ _ _ _ (Y 0) (Y 1) (Y 2) (Y 3) (Y 4) (Y 5) (Y 6) (Y 7) (Y 8) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H0, H1, H2, H3, H4, H5, H6, H7, H8⟩
  isplitl [HΦ]; · iexact HΦ
  isplitl [Ho]; · iexact Ho
  isplitl [H0]
  · iexists _; isplitr
    swap; · iexact H0
    ipureintro; dsimp only [rdat]
  isplitl [H1]
  · iexists _; isplitr
    swap; · iexact H1
    ipureintro; dsimp only [rdat]
  isplitl [H2]
  · iexists _; isplitr
    swap; · iexact H2
    ipureintro; dsimp only [rdat]
  isplitl [H3]
  · iexists _; isplitr
    swap; · iexact H3
    ipureintro; dsimp only [rdat]
  isplitl [H4]
  · iexists _; isplitr
    swap; · iexact H4
    ipureintro; dsimp only [rdat]
  isplitl [H5]
  · iexists _; isplitr
    swap; · iexact H5
    ipureintro; dsimp only [rdat]
  isplitl [H6]
  · iexists _; isplitr
    swap; · iexact H6
    ipureintro; dsimp only [rdat]; unfold yAt codesAt scaleAt; rw [← h0, ← h1, ← h2, ← h3, ← h4, ← h5]; rfl
  isplitl [H7]
  · iexists _; isplitr
    swap; · iexact H7
    ipureintro; dsimp only [rdat]; unfold codesAt; rw [← h0, ← h1, ← h2]; rfl
  · iexists _; isplitr
    swap; · iexact H8
    ipureintro; dsimp only [rdat]; unfold scaleAt; rw [← h0, ← h1, ← h2]; rfl

theorem body_obligation (c : Dev nD) : (rdat (F := F) m c).BodyObligation (defs₀ (F := F)) Variants.none () Set.univ := fun t Y hY => by
  rw [bigSep_W0, bigSep_W0, defs₀_row]
  exact triple_restated (sound_body m c t Y (finds_0 m c t _ (hY 0)) (finds_1 m c t _ (hY 1)) (finds_2 m c t _ (hY 2)) (finds_3 m c t _ (hY 3))
    (finds_4 m c t _ (hY 4)) (finds_5 m c t _ (hY 5))) rfl .rfl fun _ => .rfl

set_option backward.isDefEq.respectTransparency.types false in
set_option maxHeartbeats 800000 in
/-- The whole program, and every counter of the machine at zero at every final state. -/
theorem run_main_quiescent : θ_run defs (onTc (τ := τ) (main (F := F))) (s₀ m ρ)
    (fun r => Pipeline.RDat.FramePost cfg0 (rdat m) (V m) r ∧ r.2.sem = fun _ => 0) :=
  Pipeline.RDat.θ_run_frame (Q' := _) cfgs (0 : Fin 1) launch0 defs₀ Variants.none (rdat m) m ρ main
    (hbody := body_obligation m) (hshare := fun c => (rdat m c).share_full fun _ => rfl)
    (howed := fun _ _ => rfl) (V := V m)
    (hmain := hmain m Variants.none) (hA := A_eq m) (hΦ := fun _ _ => rfl)

/-- In a final state the arguments are unchanged. -/
theorem args_of_post {r : PUnit × MemSt nD τ sig (Elt F)} (h : Pipeline.RDat.FramePost cfg0 (rdat m) (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) :=
  ⟨((h c).2 main_arg0 (Pipeline.mem_restRefs_of main_arg0 (by decide) (by decide))).trans (V_main_arg0 m c),
      (h.arr_in c 1 rfl).trans ((A_eq m c 1).trans (V_main_arg1 m c)),
      (h.arr_in c 2 rfl).trans ((A_eq m c 2).trans (V_main_arg2 m c)),
      (h.arr_in c 3 rfl).trans ((A_eq m c 3).trans (V_main_arg3 m c)),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => args_of_post m h.1 c, h.2⟩) (run_main_quiescent m ρ)

end Cert.KernelIdeal.Hand

end
-- ==== Proof.Exponent.lean ====
module
public import Idealize.ShloMosaic.Lib.Pointwise
@[expose] public section

/-!
# The power-of-two scale of a row, found in two ways

The kernel finds the scale of a row by a binary search over the eight exponent bits of a 32-bit
float; the reference by comparing with every power of two. On the extended reals both give the same
power of two, for every `t` with `0 ≤ t < 2 ^ 126`.
-/
noncomputable section
namespace Cert.Spec
open Idealize.ShloMosaic

/-! ## The two searches -/

/-- One step of the binary search: raise the field by `b` if the float with that field is at most `t`. -/
def stepF (t : EReal) (f b : BitVec 32) : BitVec 32 :=
  if Ideal.ofBits .f32 (IntOp.shli .vector (IntOp.addi f b) 23#32) ≤ t then IntOp.addi f b else f

/-- The binary search: the exponent field of `t`. -/
def field (t : EReal) : BitVec 32 :=
  stepF t (stepF t (stepF t (stepF t (stepF t (stepF t (stepF t (stepF t 0#32 128#32) 64#32) 32#32) 16#32) 8#32) 4#32) 2#32) 1#32

/-- The exponent the kernel uses, from an exponent field. -/
def expOf (f : BitVec 32) : BitVec 32 :=
  Scalar.select (IntOp.ori (IntOp.cmpi .eq f 0#32) (IntOp.cmpi .eq f 255#32)) 0#32 (IntOp.subi f 126#32)

/-- The scale, as the kernel builds it from bits. -/
def scaleBits (t : EReal) : EReal :=
  Ideal.ofBits .f32 (IntOp.shli .vector (IntOp.addi (expOf (field t)) 127#32) 23#32)

/-- The reciprocal of the scale, as the kernel builds it from bits. -/
def invBits (t : EReal) : EReal :=
  Ideal.ofBits .f32 (IntOp.shli .vector (IntOp.addi (IntOp.subi 0#32 (expOf (field t))) 127#32) 23#32)

/-- The `k`-th exponent the reference tries: `k - 126`. -/
def cand (k : Fin 254) : EReal :=
  FloatOps.sitofp (F := Ideal) FTy.f32 (BitVec.ofNat 32 (k : ℕ)) - Ideal.ofBits .f32 1123811328#32

/-- The exponent of `t` as the reference finds it. -/
def expo (t : EReal) : EReal :=
  if t < Ideal.ofBits .f32 8388608#32 then 0
  else Finset.univ.fold max (Ideal.ofBits .f32 4286578688#32) fun k : Fin 254 =>
    Scalar.select (BitVec.ofBool (decide (Ideal.exp2 (cand k) ≤ t))) (cand k + 1) (Ideal.ofBits .f32 3271163904#32)

/-! ## Powers of two -/

/-- The value of the float with exponent field `n` and zero mantissa, were the exponents unbounded. -/
def pw (n : ℕ) : EReal := if n = 0 then 0 else (((2 : ℝ) ^ ((n : ℤ) - 127) : ℝ) : EReal)

theorem pw_pos {n : ℕ} (h : n ≠ 0) : pw n = (((2 : ℝ) ^ ((n : ℤ) - 127) : ℝ) : EReal) := if_neg h

theorem pw_strictMono : StrictMono pw := by
  intro a b h
  have hb : b ≠ 0 := by omega
  rw [pw_pos hb]
  by_cases ha : a = 0
  · rw [ha, pw, if_pos rfl]
    exact_mod_cast (zpow_pos (by norm_num) _ : (0 : ℝ) < 2 ^ ((b : ℤ) - 127))
  · rw [pw_pos ha]
    exact EReal.coe_lt_coe_iff.mpr (zpow_lt_zpow_right₀ (by norm_num : (1 : ℝ) < 2) (sub_lt_sub_right (Int.ofNat_lt.mpr h) 127))

/-- Shifting a field into place: a multiplication of numbers. -/
theorem shl_field (n : ℕ) (h : n < 256) :
    IntOp.shli .vector (BitVec.ofNat 32 n) 23#32 = BitVec.ofNat 32 (n * 8388608) := by
  have key : ∀ n : Fin 256, IntOp.shli .vector (BitVec.ofNat 32 (n : ℕ)) 23#32 = BitVec.ofNat 32 ((n : ℕ) * 8388608) := by
    decide +kernel
  exact key ⟨n, h⟩

/-- The float with exponent field `n`, for a field of a finite float. -/
theorem ofBits_field (n : ℕ) (h : n < 255) : Ideal.ofBits .f32 (BitVec.ofNat 32 (n * 8388608)) = pw n := by
  have k1 : ∀ n : Fin 256, ((BitVec.ofNat 32 ((n : ℕ) * 8388608)).extractLsb' (8 + 23) 1 == 1#1) = false := by decide +kernel
  have k2 : ∀ n : Fin 256, ((BitVec.ofNat 32 ((n : ℕ) * 8388608)).extractLsb' 23 8).toNat = n := by decide +kernel
  have k3 : ∀ n : Fin 256, ((BitVec.ofNat 32 ((n : ℕ) * 8388608)).extractLsb' 0 23).toNat = 0 := by decide +kernel
  have e1 := k1 ⟨n, by omega⟩
  have e2 := k2 ⟨n, by omega⟩
  have e3 := k3 ⟨n, by omega⟩
  dsimp only at e1 e2 e3
  show Ideal.ieee 8 23 _ = _
  unfold Ideal.ieee
  rw [e1, e2, e3]
  have hn : ¬ n = 2 ^ 8 - 1 := by omega
  dsimp only
  rw [if_neg hn]
  by_cases h0 : n = 0
  · rw [if_pos h0, h0, pw, if_pos rfl]; simp
  · rw [if_neg h0, pw_pos h0]
    congr 1
    have : ((n : ℤ) - (2 ^ (8 - 1) - 1) - (23 : ℕ)) = ((n : ℤ) - 127) + (-23) := by norm_num; ring
    rw [this, zpow_add₀ (by norm_num)]
    norm_num
    ring

/-- The float with exponent field 255 is infinite. -/
theorem ofBits_field_top : Ideal.ofBits .f32 (BitVec.ofNat 32 (255 * 8388608)) = ⊤ := by
  simp [Ideal.ofBits, Ideal.ieee]

/-! ## The binary search -/

/-- Comparing with the float of a field is comparing with its power of two, below `2 ^ 126`. -/
theorem field_le_iff (t : EReal) (ht : t < pw 253) (n : ℕ) (h : n < 256) :
    Ideal.ofBits .f32 (IntOp.shli .vector (BitVec.ofNat 32 n) 23#32) ≤ t ↔ pw n ≤ t := by
  rw [shl_field n h]
  by_cases h' : n < 255
  · rw [ofBits_field n h']
  · obtain rfl : n = 255 := by omega
    rw [ofBits_field_top]
    constructor
    · intro hh; exact absurd (lt_of_le_of_lt hh ht) not_top_lt
    · intro hh; exact absurd (lt_of_le_of_lt hh ht) (not_lt.mpr (pw_strictMono.monotone (by omega)))

/-- One step halves the interval. -/
theorem stepF_spec (t : EReal) (ht : t < pw 253) (n w : ℕ) (hw : n + 2 * w ≤ 256) (hw1 : 0 < w)
    (lo : pw n ≤ t) (hi : t < pw (n + 2 * w)) :
    ∃ n', stepF t (BitVec.ofNat 32 n) (BitVec.ofNat 32 w) = BitVec.ofNat 32 n' ∧ n' + w ≤ 256 ∧ pw n' ≤ t ∧ t < pw (n' + w) := by
  have hadd : IntOp.addi (BitVec.ofNat 32 n) (BitVec.ofNat 32 w) = BitVec.ofNat 32 (n + w) := (BitVec.ofNat_add n w).symm
  unfold stepF
  rw [hadd]
  by_cases h : pw (n + w) ≤ t
  · rw [if_pos ((field_le_iff t ht (n + w) (by omega)).mpr h)]
    exact ⟨n + w, rfl, by omega, h, by rw [show n + w + w = n + 2 * w by omega]; exact hi⟩
  · rw [if_neg (fun h' => h ((field_le_iff t ht (n + w) (by omega)).mp h'))]
    exact ⟨n, rfl, by omega, lo, not_le.mp h⟩

/-- The search finds the greatest field whose power of two is at most `t`. -/
theorem field_spec (t : EReal) (h0 : 0 ≤ t) (ht : t < pw 253) :
    ∃ n, field t = BitVec.ofNat 32 n ∧ pw n ≤ t ∧ t < pw (n + 1) ∧ n ≤ 252 := by
  obtain ⟨a, e1, b1, l1, u1⟩ := stepF_spec t ht 0 128 (by omega) (by omega) (by rw [pw, if_pos rfl]; exact h0)
    (ht.trans (pw_strictMono (by omega)))
  obtain ⟨b, e2, b2, l2, u2⟩ := stepF_spec t ht a 64 (by omega) (by omega) l1 u1
  obtain ⟨c, e3, b3, l3, u3⟩ := stepF_spec t ht b 32 (by omega) (by omega) l2 u2
  obtain ⟨d, e4, b4, l4, u4⟩ := stepF_spec t ht c 16 (by omega) (by omega) l3 u3
  obtain ⟨e, e5, b5, l5, u5⟩ := stepF_spec t ht d 8 (by omega) (by omega) l4 u4
  obtain ⟨f, e6, b6, l6, u6⟩ := stepF_spec t ht e 4 (by omega) (by omega) l5 u5
  obtain ⟨g, e7, b7, l7, u7⟩ := stepF_spec t ht f 2 (by omega) (by omega) l6 u6
  obtain ⟨k, e8, b8, l8, u8⟩ := stepF_spec t ht g 1 (by omega) (by omega) l7 u7
  refine ⟨k, ?_, l8, u8, ?_⟩
  · unfold field
    rw [e1, e2, e3, e4, e5, e6, e7, e8]
  · by_contra hk
    exact absurd (lt_of_le_of_lt l8 ht) (not_lt.mpr (pw_strictMono.monotone (by omega)))

/-! ## The bits of the scale and of its reciprocal -/

/-- From a field `n` between 1 and 252, the scale's bits are the field `n + 1`, the reciprocal's the field `253 - n`. -/
theorem bits_of_field (n : ℕ) (h1 : 1 ≤ n) (h2 : n ≤ 252) :
    IntOp.shli .vector (IntOp.addi (expOf (BitVec.ofNat 32 n)) 127#32) 23#32 = BitVec.ofNat 32 ((n + 1) * 8388608) ∧
    IntOp.shli .vector (IntOp.addi (IntOp.subi 0#32 (expOf (BitVec.ofNat 32 n))) 127#32) 23#32 = BitVec.ofNat 32 ((253 - n) * 8388608) := by
  have key : ∀ n : Fin 253, 1 ≤ (n : ℕ) →
      IntOp.shli .vector (IntOp.addi (expOf (BitVec.ofNat 32 (n : ℕ))) 127#32) 23#32 = BitVec.ofNat 32 (((n : ℕ) + 1) * 8388608) ∧
      IntOp.shli .vector (IntOp.addi (IntOp.subi 0#32 (expOf (BitVec.ofNat 32 (n : ℕ)))) 127#32) 23#32 = BitVec.ofNat 32 ((253 - (n : ℕ)) * 8388608) := by
    decide +kernel
  exact key ⟨n, by omega⟩ h1

/-- From the field 0 both are the float 1. -/
theorem bits_of_zero :
    IntOp.shli .vector (IntOp.addi (expOf (BitVec.ofNat 32 0)) 127#32) 23#32 = BitVec.ofNat 32 (127 * 8388608) ∧
    IntOp.shli .vector (IntOp.addi (IntOp.subi 0#32 (expOf (BitVec.ofNat 32 0))) 127#32) 23#32 = BitVec.ofNat 32 (127 * 8388608) := by
  decide +kernel

/-! ## The reference's search -/

theorem ofBits_126 : Ideal.ofBits .f32 1123811328#32 = ((126 : ℝ) : EReal) := by
  simp [Ideal.ofBits, Ideal.ieee, -EReal.coe_mul]; norm_num

theorem ofBits_neg125 : Ideal.ofBits .f32 3271163904#32 = ((-125 : ℝ) : EReal) := by
  simp [Ideal.ofBits, Ideal.ieee, -EReal.coe_mul]; norm_num

theorem ofBits_negInf : Ideal.ofBits .f32 4286578688#32 = ⊥ := by
  simp [Ideal.ofBits, Ideal.ieee]

theorem cand_eq (k : Fin 254) : cand k = (((k : ℕ) : ℝ) - 126 : ℝ) := by
  have hk : ∀ k : Fin 254, (BitVec.ofNat 32 (k : ℕ)).toInt = (k : ℕ) := by decide +kernel
  unfold cand
  rw [ofBits_126]
  show (((BitVec.ofNat 32 (k : ℕ)).toInt : ℝ) : EReal) - _ = _
  rw [hk k]
  push_cast
  rfl

/-- `2 ^ (k - 126)`, the power of two with field `k + 1`. -/
theorem exp2_int (z : ℤ) : Ideal.exp2 ((z : ℝ) : EReal) = (((2 : ℝ) ^ z : ℝ) : EReal) := by
  show ((Real.rpow 2 (z : ℝ) : ℝ) : EReal) = _
  congr 1
  exact Real.rpow_intCast 2 z

theorem exp2_cand (k : Fin 254) : Ideal.exp2 (cand k) = pw ((k : ℕ) + 1) := by
  rw [cand_eq, pw_pos (by omega), show (((k : ℕ) : ℝ) - 126 : ℝ) = (((k : ℕ) : ℤ) - 126 : ℤ) by push_cast; ring, exp2_int]
  congr 2
  push_cast; ring

/-- The reference's exponent of a `t` whose field is 0. -/
theorem expo_zero (t : EReal) (hi : t < pw 1) : expo t = 0 := by
  unfold expo
  rw [if_pos (by rw [show (8388608#32) = BitVec.ofNat 32 (1 * 8388608) by decide, ofBits_field 1 (by omega)]; exact hi)]

/-- The reference's exponent of a `t` whose field is `n`. -/
theorem expo_pos (t : EReal) (n : ℕ) (h1 : 1 ≤ n) (h2 : n ≤ 252) (lo : pw n ≤ t) (hi : t < pw (n + 1)) :
    expo t = (((n : ℤ) - 126 : ℤ) : ℝ) := by
  unfold expo
  rw [if_neg (by
    rw [show (8388608#32) = BitVec.ofNat 32 (1 * 8388608) by decide, ofBits_field 1 (by omega)]
    exact not_lt.mpr ((pw_strictMono.monotone h1).trans lo))]
  have hc : ∀ k : Fin 254, Ideal.exp2 (cand k) ≤ t ↔ (k : ℕ) + 1 ≤ n := by
    intro k
    rw [exp2_cand]
    constructor
    · intro h
      by_contra hk
      exact absurd (lt_of_le_of_lt h hi) (not_lt.mpr (pw_strictMono.monotone (by omega)))
    · intro h
      exact (pw_strictMono.monotone h).trans lo
  have hv : ∀ k : Fin 254, Scalar.select (BitVec.ofBool (decide (Ideal.exp2 (cand k) ≤ t))) (cand k + 1) (Ideal.ofBits .f32 3271163904#32)
      = if (k : ℕ) + 1 ≤ n then (((k : ℕ) - 125 : ℝ) : EReal) else ((-125 : ℝ) : EReal) := by
    intro k
    by_cases h : (k : ℕ) + 1 ≤ n
    · rw [if_pos h, decide_eq_true ((hc k).mpr h), cand_eq]
      show (((k : ℕ) : ℝ) - 126 : ℝ) + (1 : EReal) = _
      rw [show (1 : EReal) = ((1 : ℝ) : EReal) from rfl, ← EReal.coe_add]
      congr 1; ring
    · rw [if_neg h, decide_eq_false (fun h' => h ((hc k).mp h')), ofBits_neg125]
      rfl
  rw [ofBits_negInf]
  apply le_antisymm
  · rw [Finset.fold_max_le]
    refine ⟨bot_le, fun k _ => ?_⟩
    rw [hv k]
    split
    · next h =>
      apply EReal.coe_le_coe_iff.mpr
      have : ((k : ℕ) : ℝ) + 1 ≤ n := by exact_mod_cast h
      push_cast; linarith
    · apply EReal.coe_le_coe_iff.mpr
      have : (1 : ℝ) ≤ n := by exact_mod_cast h1
      push_cast; linarith
  · rw [Finset.le_fold_max]
    right
    refine ⟨⟨n - 1, by omega⟩, Finset.mem_univ _, ?_⟩
    rw [hv, if_pos (by show n - 1 + 1 ≤ n; omega)]
    apply EReal.coe_le_coe_iff.mpr
    have : ((n - 1 : ℕ) : ℝ) = (n : ℝ) - 1 := by push_cast [Nat.cast_sub h1]; ring
    dsimp only
    rw [this]
    push_cast; linarith

/-! ## The two agree -/

/-- Below `2 ^ 126`, the kernel's scale and reciprocal are the reference's powers of two. -/
theorem bits_eq (t : EReal) (h0 : 0 ≤ t) (ht : t < pw 253) :
    scaleBits t = Ideal.exp2 (expo t) ∧ invBits t = Ideal.exp2 (0 - expo t) := by
  obtain ⟨n, e, lo, hi, hn⟩ := field_spec t h0 ht
  unfold scaleBits invBits
  rw [e]
  by_cases h : n = 0
  · subst h
    rw [bits_of_zero.1, bits_of_zero.2, ofBits_field 127 (by omega), expo_zero t hi, pw_pos (by omega)]
    have hz : Ideal.exp2 (0 : EReal) = ((1 : ℝ) : EReal) := by
      have := exp2_int 0
      rw [zpow_zero] at this
      rw [← this]
      congr 1
      norm_num
    rw [sub_zero, hz]
    norm_num
  · rw [(bits_of_field n (by omega) hn).1, (bits_of_field n (by omega) hn).2, ofBits_field _ (by omega), ofBits_field _ (by omega),
      expo_pos t n (by omega) hn lo hi, pw_pos (by omega), pw_pos (by omega), exp2_int]
    have hneg : (0 : EReal) - ((((n : ℤ) - 126 : ℤ) : ℝ) : EReal) = (((126 - (n : ℤ) : ℤ) : ℝ) : EReal) := by
      rw [show (0 : EReal) = ((0 : ℝ) : EReal) from rfl, ← EReal.coe_sub]
      congr 1; push_cast; ring
    rw [hneg, exp2_int]
    constructor
    · congr 2; push_cast; ring
    · congr 2; rw [Nat.cast_sub (by omega)]; push_cast; ring

end Cert.Spec
-- ==== Proof.Row.lean ====
module
public import proofs.«01_k».proof.Proof.Exponent
@[expose] public section

/-!
# One row of the computation, as plain functions of the extended reals

A row of the activations is normalised and modulated (`hv`), its largest magnitude over 448 (`tv`) gives
a power-of-two scale, and the row divided by that scale and clamped is the row of codes. Both
programs compute these functions. Where the modulation is finite the scale is below `2 ^ 126`
(`tv_lt`), and the kernel's bit-built scale is the reference's.
-/
noncomputable section
namespace Cert.Spec
open Idealize.ShloMosaic

variable (row ms sh : Fin 3072 → EReal)

/-- The row less its mean. -/
def xc (k : Fin 3072) : EReal := row k - (∑ x, row x) * (((1 / 3072 : ℝ) : ℝ) : EReal)

/-- The row's variance plus epsilon. -/
def vr : EReal := (∑ x, xc row x * xc row x) * (((1 / 3072 : ℝ) : ℝ) : EReal) + Ideal.ofBits .f32 897988541#32

/-- The normalised and modulated row. -/
def hv (k : Fin 3072) : EReal := xc row k * Ideal.rsqrt (vr row) * (1 + ms k) + sh k

/-- The row's largest magnitude, times the float nearest 1/448. -/
def tv : EReal :=
  Finset.univ.fold max (Ideal.ofBits .f32 4286578688#32) (fun k => FloatOps.absf (F := Ideal) (φ := .f32) (hv row ms sh k)) * Ideal.ofBits .f32 991054117#32

/-- A value clamped to the range of the 8-bit floats. -/
def clamp (x : EReal) : EReal := min (Ideal.ofBits .f32 1138753536#32) (max (Ideal.ofBits .f32 3286237184#32) x)

/-- The row of codes. -/
def code (k : Fin 3072) : EReal := clamp (hv row ms sh k * Ideal.exp2 (0 - expo (tv row ms sh)))

/-- The row's scale. -/
def scale : EReal := Ideal.exp2 (expo (tv row ms sh))

/-- One entry of the projected row, from the codes, a column of the weights, its scale and its bias. -/
def proj (w : Fin 3072 → EReal) (s b : EReal) : EReal :=
  (∑ k, code row ms sh k * w k) * scale row ms sh * s + b

/-! ## The constants -/

theorem ofBits_3072 : Ideal.ofBits .f32 1161822208#32 = ((3072 : ℝ) : EReal) := by
  simp [Ideal.ofBits, Ideal.ieee, -EReal.coe_mul]; norm_num

theorem ofBits_eps : Ideal.ofBits .f32 897988541#32 = ((8796093 / 8796093022208 : ℝ) : EReal) := by
  simp [Ideal.ofBits, Ideal.ieee, -EReal.coe_mul]; norm_num

theorem ofBits_inv448 : Ideal.ofBits .f32 991054117#32 = ((9586981 / 4294967296 : ℝ) : EReal) := by
  simp [Ideal.ofBits, Ideal.ieee, -EReal.coe_mul]; norm_num

theorem ofBits_max : Ideal.ofBits .f32 2139095039#32 = ((16777215 * 2 ^ 104 : ℝ) : EReal) := by
  simp [Ideal.ofBits, Ideal.ieee, -EReal.coe_mul]

/-- Dividing by the row's length is multiplying by its reciprocal. -/
theorem div_3072 (x : EReal) : Ideal.div x (Ideal.ofBits .f32 1161822208#32) = x * (((1 / 3072 : ℝ) : ℝ) : EReal) := by
  rw [ofBits_3072]
  exact Ideal.div_coe (show (3072 : ℝ) ≠ 0 by norm_num) x

/-! ## The bound -/

theorem mul_self_nonneg' (a : EReal) : 0 ≤ a * a := by
  induction a with
  | bot => simp
  | top => simp
  | coe r => exact_mod_cast mul_self_nonneg r

theorem mul_self_ne_top {a : EReal} (h : a * a ≠ ⊤) : ∃ q : ℝ, a = q := by
  induction a with
  | bot => exact absurd (by simp) h
  | top => exact absurd (by simp) h
  | coe r => exact ⟨r, rfl⟩

/-- The normalised row is finite and at most 64 in magnitude (its length is 3072). -/
theorem norm_le (k : Fin 3072) : ∃ q : ℝ, xc row k * Ideal.rsqrt (vr row) = q ∧ |q| ≤ 64 := by
  have hS : 0 ≤ ∑ x, xc row x * xc row x := Finset.sum_nonneg fun x _ => mul_self_nonneg' _
  have hk : xc row k * xc row k ≤ ∑ x, xc row x * xc row x :=
    Finset.single_le_sum (f := fun x => xc row x * xc row x) (fun x _ => mul_self_nonneg' _) (Finset.mem_univ k)
  have hv : vr row = (∑ x, xc row x * xc row x) * (((1 / 3072 : ℝ) : ℝ) : EReal) + ((8796093 / 8796093022208 : ℝ) : EReal) := by
    unfold vr; rw [ofBits_eps]
  generalize (∑ x, xc row x * xc row x) = S at hS hk hv
  generalize vr row = v at hv
  generalize xc row k = a at hk
  subst hv
  induction S with
  | bot => simp at hS
  | top =>
    rw [EReal.top_mul_coe_of_pos (by norm_num), EReal.top_add_coe]
    exact ⟨0, by show a * (0 : EReal) = _; simp, by norm_num⟩
  | coe σ =>
    obtain ⟨q, rfl⟩ := mul_self_ne_top (ne_of_lt (lt_of_le_of_lt hk (EReal.coe_lt_top σ)))
    have hq : q * q ≤ σ := by exact_mod_cast hk
    rw [← EReal.coe_mul, ← EReal.coe_add]
    have hσ : 0 ≤ σ := by exact_mod_cast hS
    generalize hr : σ * (1 / 3072) + 8796093 / 8796093022208 = r
    have hr0 : 0 < r := by rw [← hr]; positivity
    have hrs : Ideal.rsqrt (r : EReal) = (((Real.sqrt r)⁻¹ : ℝ) : EReal) := by
      show (if r < 0 then ⊥ else if r = 0 then ⊤ else (((Real.sqrt r)⁻¹ : ℝ) : EReal)) = _
      rw [if_neg (not_lt.mpr hr0.le), if_neg hr0.ne']
    rw [hrs, ← EReal.coe_mul]
    refine ⟨_, rfl, ?_⟩
    have hs : 0 < Real.sqrt r := Real.sqrt_pos.mpr hr0
    rw [abs_mul, abs_inv, abs_of_pos hs, ← div_eq_mul_inv, div_le_iff₀ hs]
    apply abs_le_of_sq_le_sq _ (by positivity)
    rw [mul_pow, Real.sq_sqrt hr0.le]
    nlinarith

/-- A modulation the precondition admits: finite, at most the largest finite 32-bit float. -/
def Fin32 (a : EReal) : Prop := max a (-a) ≤ Ideal.ofBits .f32 2139095039#32

theorem Fin32.real {a : EReal} (h : Fin32 a) : ∃ q : ℝ, a = q ∧ |q| ≤ 2 ^ 128 := by
  unfold Fin32 at h
  rw [ofBits_max] at h
  induction a with
  | bot => exact absurd ((le_max_right (⊥ : EReal) (-⊥)).trans h) (by rw [EReal.neg_bot]; exact not_le.mpr (EReal.coe_lt_top _))
  | top => exact absurd ((le_max_left (⊤ : EReal) (-⊤)).trans h) (not_le.mpr (EReal.coe_lt_top _))
  | coe q =>
    refine ⟨q, rfl, ?_⟩
    have h1 : q ≤ 16777215 * 2 ^ 104 := EReal.coe_le_coe_iff.mp ((le_max_left _ _).trans h)
    have h2 : -q ≤ 16777215 * 2 ^ 104 := EReal.coe_le_coe_iff.mp (by rw [EReal.coe_neg]; exact (le_max_right _ _).trans h)
    rw [abs_le]
    constructor <;> nlinarith

/-- Under a finite modulation every magnitude of the row is a bounded real. -/
theorem hv_le (hm : ∀ k, Fin32 (ms k)) (hs : ∀ k, Fin32 (sh k)) (k : Fin 3072) :
    FloatOps.absf (F := Ideal) (φ := .f32) (hv row ms sh k) ≤ ((66 * 2 ^ 128 : ℝ) : EReal) ∧ 0 ≤ FloatOps.absf (F := Ideal) (φ := .f32) (hv row ms sh k) := by
  obtain ⟨q, eq, bq⟩ := norm_le row k
  obtain ⟨a, ea, ba⟩ := (hm k).real
  obtain ⟨b, eb, bb⟩ := (hs k).real
  have e : hv row ms sh k = ((q * (1 + a) + b : ℝ) : EReal) := by
    unfold hv
    rw [eq, ea, eb]
    push_cast
    rfl
  rw [e]
  show max ((q * (1 + a) + b : ℝ) : EReal) (-((q * (1 + a) + b : ℝ) : EReal)) ≤ _ ∧ 0 ≤ max ((q * (1 + a) + b : ℝ) : EReal) (-((q * (1 + a) + b : ℝ) : EReal))
  have hb : |q * (1 + a) + b| ≤ 66 * 2 ^ 128 := by
    have h1 : |q * (1 + a)| ≤ 64 * (1 + 2 ^ 128) := by
      rw [abs_mul]
      have : |1 + a| ≤ 1 + 2 ^ 128 := (abs_add_le _ _).trans (by rw [abs_one]; linarith)
      exact mul_le_mul bq this (abs_nonneg _) (by norm_num)
    have := abs_add_le (q * (1 + a)) b
    nlinarith
  rw [← EReal.coe_neg]
  constructor
  · rw [max_le_iff]
    exact ⟨EReal.coe_le_coe_iff.mpr ((le_abs_self _).trans hb), EReal.coe_le_coe_iff.mpr ((neg_le_abs _).trans hb)⟩
  · rw [le_max_iff]
    rcases le_total 0 (q * (1 + a) + b) with h | h
    · left; exact_mod_cast h
    · right
      have : 0 ≤ -(q * (1 + a) + b) := by linarith
      exact_mod_cast this

/-- A magnitude so bounded, times the float nearest 1/448, is below `2 ^ 126`. -/
theorem mul_inv448_lt (M : EReal) (h0 : 0 ≤ M) (h1 : M ≤ ((66 * 2 ^ 128 : ℝ) : EReal)) :
    0 ≤ M * ((9586981 / 4294967296 : ℝ) : EReal) ∧ M * ((9586981 / 4294967296 : ℝ) : EReal) < pw 253 := by
  induction M with
  | bot => simp at h0
  | top => exact absurd (EReal.coe_lt_top _) (not_lt.mpr h1)
  | coe μ =>
    have g0 : 0 ≤ μ := by exact_mod_cast h0
    have g1 : μ ≤ 66 * 2 ^ 128 := EReal.coe_le_coe_iff.mp h1
    rw [← EReal.coe_mul]
    constructor
    · exact EReal.coe_nonneg.mpr (by positivity)
    · rw [pw_pos (by omega), show ((253 : ℕ) : ℤ) - 127 = 126 by norm_num]
      apply EReal.coe_lt_coe_iff.mpr
      have : (2 : ℝ) ^ (126 : ℤ) = 2 ^ 126 := by norm_cast
      rw [this]
      nlinarith

/-- Under a finite modulation the row's `tv` is between 0 and `2 ^ 126`. -/
theorem tv_lt (hm : ∀ k, Fin32 (ms k)) (hs : ∀ k, Fin32 (sh k)) : 0 ≤ tv row ms sh ∧ tv row ms sh < pw 253 := by
  unfold tv
  rw [ofBits_negInf, ofBits_inv448]
  exact mul_inv448_lt _
    (Finset.le_fold_max _ |>.mpr (.inr ⟨0, Finset.mem_univ _, (hv_le row ms sh hm hs 0).2⟩))
    (Finset.fold_max_le _ |>.mpr ⟨bot_le, fun k _ => (hv_le row ms sh hm hs k).1⟩)

/-- The kernel's scale of a row. -/
theorem scaleBits_tv (hm : ∀ k, Fin32 (ms k)) (hs : ∀ k, Fin32 (sh k)) : scaleBits (tv row ms sh) = scale row ms sh :=
  (bits_eq _ (tv_lt row ms sh hm hs).1 (tv_lt row ms sh hm hs).2).1

/-- The kernel's codes of a row. -/
theorem codeBits_tv (hm : ∀ k, Fin32 (ms k)) (hs : ∀ k, Fin32 (sh k)) (k : Fin 3072) :
    clamp (hv row ms sh k * invBits (tv row ms sh)) = code row ms sh k := by
  unfold code
  rw [(bits_eq _ (tv_lt row ms sh hm hs).1 (tv_lt row ms sh hm hs).2).2]

end Cert.Spec
-- ==== Proof.IdealPoint.lean ====
module
public import proofs.«01_k».proof.Proof.IdealFrame
public import proofs.«01_k».proof.Proof.Row
public import Idealize.ShloMosaic.Lib.Pipeline.ValueKit.Point
@[expose] public section
set_option maxRecDepth 16384

/-!
# What one grid point of the kernel computes, entry by entry, on the extended reals

Every entry of a point's blocks is one of the row functions of `Row.lean`.
-/
noncomputable section
namespace Cert.KernelIdeal.Hand
open Cert.KernelIdeal Cert.KernelIdeal.Gen
open Idealize.ShloMosaic Idealize.ShloMosaic.TcCoe Idealize.ShloMosaic.Tactic
open Cert.Spec

/-! ## The payloads at an index -/

theorem named_inv : Named.named (F := Ideal) κ "inv_k" (φ := .f32) 967486123#32 = (((1 / 3072 : ℝ) : ℝ) : EReal) := rfl

theorem pay2_apply (ms : Vec Ideal S1x3072 .f32) (l : Fin 3072) : k0_pay2 ms (ix2 0 l) = 1 + ms (ix2 0 l) := by
  pointwise [k0_pay2]

theorem pay4_apply (xg : Vec Ideal S32x3072 .bf16) (r : Fin 32) (l : Fin 3072) :
    k0_pay4 xg (ix2 r l) = xc (fun k => xg (ix2 r k)) l := by
  unfold xc
  rw [← named_inv]
  pointwise [k0_pay4]

theorem pay5_apply (xg : Vec Ideal S32x3072 .bf16) (r : Fin 32) : k0_pay5 xg (ix2 r 0) = vr (fun k => xg (ix2 r k)) := by
  unfold vr
  simp only [← pay4_apply]
  rw [← named_inv]
  pointwise [k0_pay5]

theorem pay6_apply (xg : Vec Ideal S32x3072 .bf16) (ms sh : Vec Ideal S1x3072 .f32) (r : Fin 32) (l : Fin 3072) :
    k0_pay6 (k0_pay2 ms) sh (k0_pay4 xg) (k0_pay5 xg) (ix2 r l)
      = hv (fun k => xg (ix2 r k)) (fun k => ms (ix2 0 k)) (fun k => sh (ix2 0 k)) l := by
  have key : ∀ (a : FVec Ideal S1x3072 .f32) (b : Vec Ideal S1x3072 .f32) (c : FVec Ideal S32x3072 .f32) (d : FVec Ideal S32x1 .f32),
      k0_pay6 a b c d (ix2 r l) = c (ix2 r l) * Ideal.rsqrt (d (ix2 r 0)) * a (ix2 0 l) + b (ix2 0 l) := by
    intro a b c d
    pointwise [k0_pay6]
  rw [key, pay4_apply, pay5_apply, pay2_apply]
  rfl

theorem pay7_apply (xg : Vec Ideal S32x3072 .bf16) (ms sh : Vec Ideal S1x3072 .f32) (r : Fin 32) (l : Fin 128) :
    k0_pay7 (k0_pay2 ms) sh (k0_pay4 xg) (k0_pay5 xg) (ix2 r l)
      = tv (fun k => xg (ix2 r k)) (fun k => ms (ix2 0 k)) (fun k => sh (ix2 0 k)) := by
  have key : ∀ (a : FVec Ideal S1x3072 .f32) (b : Vec Ideal S1x3072 .f32) (c : FVec Ideal S32x3072 .f32) (d : FVec Ideal S32x1 .f32),
      k0_pay7 a b c d (ix2 r l) = Finset.univ.fold max (Ideal.ofBits .f32 4286578688#32)
        (fun k => FloatOps.absf (F := Ideal) (φ := .f32) (k0_pay6 a b c d (ix2 r k))) * Ideal.ofBits .f32 991054117#32 := by
    intro a b c d
    pointwise [k0_pay7]
  rw [key]
  simp only [pay6_apply]
  rfl

theorem pay8_apply (a : FVec Ideal S1x3072 .f32) (b : Vec Ideal S1x3072 .f32) (c : FVec Ideal S32x3072 .f32) (d : FVec Ideal S32x1 .f32) (r : Fin 32) (l : Fin 128) :
    k0_pay8 a b c d (ix2 r l) = stepF (k0_pay7 a b c d (ix2 r l)) (stepF (k0_pay7 a b c d (ix2 r l)) (stepF (k0_pay7 a b c d (ix2 r l)) 0#32 128#32) 64#32) 32#32 := by
  unfold stepF
  pointwise [k0_pay8]

theorem pay9_apply (a : FVec Ideal S1x3072 .f32) (b : Vec Ideal S1x3072 .f32) (c : FVec Ideal S32x3072 .f32) (d : FVec Ideal S32x1 .f32) (r : Fin 32) (l : Fin 128) :
    k0_pay9 a b c d (ix2 r l) = IntOp.shli .vector (IntOp.addi (k0_pay8 a b c d (ix2 r l)) 16#32) 23#32 := by
  pointwise [k0_pay9]

theorem pay10_apply (t : FVec Ideal S32x128 .f32) (a b : IVec S32x128 32) (r : Fin 32) (l : Fin 128)
    (hb : b (ix2 r l) = IntOp.shli .vector (IntOp.addi (a (ix2 r l)) 16#32) 23#32) :
    k0_pay10 t a b (ix2 r l) = stepF (t (ix2 r l)) (stepF (t (ix2 r l)) (stepF (t (ix2 r l)) (stepF (t (ix2 r l)) (stepF (t (ix2 r l)) (a (ix2 r l)) 16#32) 8#32) 4#32) 2#32) 1#32 := by
  unfold stepF
  rw [← hb]
  pointwise [k0_pay10]

theorem pay13_apply (a : IVec S32x128 32) (b c : IVec S32x128 1) (r : Fin 32) (l : Fin 128) :
    k0_pay13 a b c (ix2 r l) = Scalar.select (IntOp.ori (b (ix2 r l)) (c (ix2 r l))) 0#32 (IntOp.subi (a (ix2 r l)) 126#32) := by
  pointwise [k0_pay13]

theorem pay14_apply (h : FVec Ideal S32x3072 .f32) (a : IVec S32x128 32) (b c : IVec S32x128 1) (r : Fin 32) (l : Fin 3072) :
    k0_pay14 h a b c (ix2 r l) = clamp (h (ix2 r l) * Ideal.ofBits .f32
      (IntOp.shli .vector (IntOp.addi (IntOp.subi 0#32 (k0_pay13 a b c (ix2 r 0))) 127#32) 23#32)) := by
  unfold clamp
  pointwise [k0_pay14]

theorem pay15_apply (a : IVec S32x128 32) (b c : IVec S32x128 1) (r : Fin 32) (l : Fin 128) :
    k0_pay15 (F := Ideal) a b c (ix2 r l) = Ideal.ofBits .f32 (IntOp.shli .vector (IntOp.addi (k0_pay13 a b c (ix2 r l)) 127#32) 23#32) := by
  pointwise [k0_pay15]

/-- A sum that selects one entry is that entry. -/
theorem sum_select {n : ℕ} (hn : n ≤ 2 ^ 32) (l : Fin n) (f : Fin n → EReal) :
    (∑ x : Fin n, Scalar.select (IntOp.cmpi .eq (BitVec.ofNat 32 (x : ℕ)) (BitVec.ofNat 32 (l : ℕ))) (f x) 0) = f l := by
  rw [Finset.sum_eq_single l]
  · show (if IntOp.cmpi .eq (BitVec.ofNat 32 (l : ℕ)) (BitVec.ofNat 32 (l : ℕ)) = 1#1 then f l else 0) = f l
    rw [if_pos (by simp [IntOp.cmpi])]
  · intro x _ hx
    have hne : ¬ BitVec.ofNat 32 (x : ℕ) = BitVec.ofNat 32 (l : ℕ) := by
      intro h
      apply hx
      have := congrArg BitVec.toNat h
      rw [BitVec.toNat_ofNat, BitVec.toNat_ofNat, Nat.mod_eq_of_lt (by omega), Nat.mod_eq_of_lt (by omega)] at this
      exact Fin.ext this
    show (if IntOp.cmpi .eq (BitVec.ofNat 32 (x : ℕ)) (BitVec.ofNat 32 (l : ℕ)) = 1#1 then f x else 0) = 0
    rw [if_neg]
    show ¬ BitVec.ofBool (BitVec.ofNat 32 (x : ℕ) == BitVec.ofNat 32 (l : ℕ)) = 1#1
    rw [beq_false_of_ne hne]; decide
  · intro h
    exact absurd (Finset.mem_univ l) h

/-- The first stripe of scales: in row `w`, the scales of the block's first 128 rows. -/
theorem pay95_apply (w : BitVec 32) (sc : FVec Ideal S256x128 .f32) (old : Vec Ideal S2x128 .f32) (r : Fin 2) (l : Fin 128) :
    k0_pay95 w k0_pay3 sc old (ix2 r l) = if BitVec.ofNat 32 (r : ℕ) = w then sc (ix2 ⟨l.val, by omega⟩ l) else old (ix2 r l) := by
  have key : k0_pay95 w k0_pay3 sc old (ix2 r l) = Scalar.select (IntOp.cmpi .eq (BitVec.ofNat 32 (r : ℕ)) w)
      (∑ x : Fin 128, Scalar.select (IntOp.cmpi .eq (BitVec.ofNat 32 (x : ℕ)) (BitVec.ofNat 32 (l : ℕ))) (sc (ix2 ⟨x.val, by omega⟩ l)) 0)
      (old (ix2 r l)) := by
    pointwise [k0_pay95, k0_pay3]
  rw [key, sum_select (by norm_num) l fun x => sc (ix2 ⟨x.val, by omega⟩ l)]
  by_cases h : BitVec.ofNat 32 (r : ℕ) = w
  · rw [if_pos h]
    simp [Scalar.select, IntOp.cmpi, h]
  · rw [if_neg h]
    have e : IntOp.cmpi .eq (BitVec.ofNat 32 (r : ℕ)) w = 0#1 := by
      show BitVec.ofBool (BitVec.ofNat 32 (r : ℕ) == w) = 0#1
      rw [beq_false_of_ne h]; rfl
    rw [e]; rfl

/-- The second stripe: the scales of the last 128 rows. -/
theorem pay96_apply (w : BitVec 32) (sc : FVec Ideal S256x128 .f32) (old : Vec Ideal S2x128 .f32) (r : Fin 2) (l : Fin 128) :
    k0_pay96 w k0_pay3 sc old (ix2 r l) = if BitVec.ofNat 32 (r : ℕ) = w then sc (ix2 ⟨128 + l.val, by omega⟩ l) else old (ix2 r l) := by
  have key : k0_pay96 w k0_pay3 sc old (ix2 r l) = Scalar.select (IntOp.cmpi .eq (BitVec.ofNat 32 (r : ℕ)) w)
      (∑ x : Fin 128, Scalar.select (IntOp.cmpi .eq (BitVec.ofNat 32 (x : ℕ)) (BitVec.ofNat 32 (l : ℕ))) (sc (ix2 ⟨128 + x.val, by omega⟩ l)) 0)
      (old (ix2 r l)) := by
    pointwise [k0_pay96, k0_pay3]
  rw [key, sum_select (by norm_num) l fun x => sc (ix2 ⟨128 + x.val, by omega⟩ l)]
  by_cases h : BitVec.ofNat 32 (r : ℕ) = w
  · rw [if_pos h]
    simp [Scalar.select, IntOp.cmpi, h]
  · rw [if_neg h]
    have e : IntOp.cmpi .eq (BitVec.ofNat 32 (r : ℕ)) w = 0#1 := by
      show BitVec.ofBool (BitVec.ofNat 32 (r : ℕ) == w) = 0#1
      rw [beq_false_of_ne h]; rfl
    rw [e]; rfl

theorem pay98_apply (sc : FVec Ideal S256x128 .f32) (cd : Vec Ideal S256x3072 .fp8e4m3) (w : Vec Ideal S3072x512 .fp8e4m3) (ws b : Vec Ideal S1x512 .f32) (r : Fin 256) (l : Fin 512) :
    k0_pay98 sc (k0_pay97 cd) w (constant S256x512 .f32 0x00000000#32) ws b (ix2 r l)
      = (∑ x, cd (ix2 r x) * w (ix2 x l)) * sc (ix2 r 0) * ws (ix2 0 l) + b (ix2 0 l) := by
  pointwise [k0_pay98, k0_pay97]

/-! ## The groups of rows -/

theorem fieldG_apply (xg : Vec Ideal S32x3072 .bf16) (ms sh : Vec Ideal S1x3072 .f32) (r : Fin 32) (l : Fin 128) :
    fieldG xg ms sh (ix2 r l) = field (tv (fun k => xg (ix2 r k)) (fun k => ms (ix2 0 k)) (fun k => sh (ix2 0 k))) := by
  unfold fieldG
  rw [pay10_apply _ _ _ _ _ (pay9_apply _ _ _ _ _ _), pay8_apply, pay7_apply]
  rfl

theorem exp_apply (xg : Vec Ideal S32x3072 .bf16) (ms sh : Vec Ideal S1x3072 .f32) (r : Fin 32) (l : Fin 128) :
    k0_pay13 (fieldG xg ms sh) (isZeroG xg ms sh) (isTopG xg ms sh) (ix2 r l)
      = expOf (field (tv (fun k => xg (ix2 r k)) (fun k => ms (ix2 0 k)) (fun k => sh (ix2 0 k)))) := by
  rw [pay13_apply]
  show Scalar.select (IntOp.ori (IntOp.cmpi .eq (fieldG xg ms sh (ix2 r l)) 0#32) (IntOp.cmpi .eq (fieldG xg ms sh (ix2 r l)) 255#32)) _ _ = _
  rw [fieldG_apply]
  rfl

theorem codesG_apply (xg : Vec Ideal S32x3072 .bf16) (ms sh : Vec Ideal S1x3072 .f32) (r : Fin 32) (l : Fin 3072) :
    codesG xg ms sh (ix2 r l) = clamp (hv (fun k => xg (ix2 r k)) (fun k => ms (ix2 0 k)) (fun k => sh (ix2 0 k)) l
      * invBits (tv (fun k => xg (ix2 r k)) (fun k => ms (ix2 0 k)) (fun k => sh (ix2 0 k)))) := by
  unfold codesG
  rw [pay14_apply, exp_apply, pay6_apply]
  rfl

theorem scaleG_apply (xg : Vec Ideal S32x3072 .bf16) (ms sh : Vec Ideal S1x3072 .f32) (r : Fin 32) (l : Fin 128) :
    scaleG xg ms sh (ix2 r l) = scaleBits (tv (fun k => xg (ix2 r k)) (fun k => ms (ix2 0 k)) (fun k => sh (ix2 0 k))) := by
  unfold scaleG
  rw [pay15_apply, exp_apply]
  rfl

/-! ## The blocks -/

/-- The rows of a group. -/
def rowsOf (x0 : Vec Ideal S256x3072 .bf16) (k : Fin 8) : Vec Ideal S32x3072 .bf16 := View.ld x0 (rowR k)

/-- A row of a group is a row of the block. -/
theorem ld_row (x0 : Vec Ideal S256x3072 .bf16) (r : Fin 256) (k : Fin 3072) :
    rowsOf x0 ⟨r.val / 32, by omega⟩ (ix2 ⟨r.val % 32, Nat.mod_lt _ (by decide)⟩ k) = x0 (ix2 r k) := by
  refine View.ld_unit_apply_of _ _ _ _ _ _ fun a => ?_
  match a with
  | 0 => show r.val = 32 * (r.val / 32) + r.val % 32; omega
  | 1 => show k.val = 0 + k.val; omega

theorem codesB_apply (x0 : Vec Ideal S256x3072 .bf16) (ms sh : Vec Ideal S1x3072 .f32) (r : Fin 256) (l : Fin 3072) :
    codesB x0 ms sh (ix2 r l) = clamp (hv (fun k => x0 (ix2 r k)) (fun k => ms (ix2 0 k)) (fun k => sh (ix2 0 k)) l
      * invBits (tv (fun k => x0 (ix2 r k)) (fun k => ms (ix2 0 k)) (fun k => sh (ix2 0 k)))) := by
  refine (codesG_apply (rowsOf x0 ⟨r.val / 32, by omega⟩) ms sh ⟨r.val % 32, Nat.mod_lt _ (by decide)⟩ l).trans ?_
  simp only [ld_row]

theorem scaleB_apply (x0 : Vec Ideal S256x3072 .bf16) (ms sh : Vec Ideal S1x3072 .f32) (r : Fin 256) (l : Fin 128) :
    scaleB x0 ms sh (ix2 r l) = scaleBits (tv (fun k => x0 (ix2 r k)) (fun k => ms (ix2 0 k)) (fun k => sh (ix2 0 k))) := by
  refine (concatenate_ofFn_apply (t := S256x128) (s₁ := S32x128) 0 (fun k : Fin 8 => scaleG (rowsOf x0 k) ms sh)
    concatenates_S32x128_S32x128_S32x128_S32x128_S32x128_S32x128_S32x128_S32x128_S256x128_d0 rfl 32 rfl (ix2 r l)
    ⟨r.val / 32, by omega⟩ rfl (ix2 ⟨r.val % 32, Nat.mod_lt _ (by decide)⟩ l) rfl (fun b hb => by
      match b with
      | 0 => exact absurd rfl hb
      | 1 => rfl)).trans ?_
  rw [scaleG_apply]
  simp only [ld_row]

theorem yB_apply (cd : Vec Ideal S256x3072 .fp8e4m3) (sc : FVec Ideal S256x128 .f32) (w : Vec Ideal S3072x9216 .fp8e4m3) (ws b : Vec Ideal S1x9216 .f32)
    (r : Fin 256) (n : Fin 9216) :
    yB cd sc w ws b (ix2 r n) = (∑ k, cd (ix2 r k) * w (ix2 k n)) * sc (ix2 r 0) * ws (ix2 0 n) + b (ix2 0 n) := by
  have hW : ∀ k : Fin 3072, View.ld w (colW ⟨n.val / 512, by omega⟩) (ix2 k ⟨n.val % 512, Nat.mod_lt _ (by decide)⟩) = w (ix2 k n) := by
    intro k
    refine View.ld_unit_apply_of _ _ _ _ _ _ fun a => ?_
    match a with
    | 0 => show k.val = 0 + k.val; omega
    | 1 => show n.val = 512 * (n.val / 512) + n.val % 512; omega
  have hS : ∀ s : Vec Ideal S1x9216 .f32, View.ld s (colS ⟨n.val / 512, by omega⟩) (ix2 0 ⟨n.val % 512, Nat.mod_lt _ (by decide)⟩) = s (ix2 0 n) := by
    intro s
    refine View.ld_unit_apply_of _ _ _ _ _ _ fun a => ?_
    match a with
    | 0 => show 0 = 0 + 0; omega
    | 1 => show n.val = 512 * (n.val / 512) + n.val % 512; omega
  refine (pay98_apply sc cd (View.ld w (colW ⟨n.val / 512, by omega⟩)) (View.ld ws (colS ⟨n.val / 512, by omega⟩))
    (View.ld b (colS ⟨n.val / 512, by omega⟩)) r ⟨n.val % 512, Nat.mod_lt _ (by decide)⟩).trans ?_
  simp only [hW]
  exact congrArg₂ (· + ·) (congrArg₂ (· * ·) rfl (hS ws)) (hS b)

/-- The scale array after a point: the point's sample's row holds, in the point's 256 columns, the block's scales. -/
theorem stepB_apply (i : grid0.Coords) (sc : FVec Ideal S256x128 .f32) (f : Fin 256 → EReal) (hf : ∀ r l, sc (ix2 r l) = f r)
    (Y : Vec Ideal S2x4096 .f32) (b : Fin 2) (s : Fin 4096) :
    stepB i sc Y (ix2 b s) = if h : b.val = (i 0).val / 16 ∧ 256 * ((i 0).val % 16) ≤ s.val ∧ s.val < 256 * ((i 0).val % 16) + 256 then
      f ⟨s.val - 256 * ((i 0).val % 16), by omega⟩ else Y (ix2 b s) := by
  have hi : (i 0).val < 32 := (i 0).isLt
  have hb : BitVec.ofNat 32 b.val = BitVec.ofNat 32 ((i 0).val / 16) ↔ b.val = (i 0).val / 16 := by
    constructor
    · intro h
      have := congrArg BitVec.toNat h
      rwa [BitVec.toNat_ofNat, BitVec.toNat_ofNat, Nat.mod_eq_of_lt (by omega), Nat.mod_eq_of_lt (by omega)] at this
    · intro h; rw [h]
  unfold stepB
  split
  · next h =>
    have h : 256 * ((i 0).val % 16) + 128 ≤ s.val ∧ s.val < 256 * ((i 0).val % 16) + 256 := h
    show k0_pay96 (BitVec.ofNat 32 ((i 0).val / 16)) k0_pay3 sc _ (ix2 b ⟨s.val - (256 * ((i 0).val % 16) + 128), _⟩) = _
    rw [pay96_apply, hf]
    by_cases hbb : b.val = (i 0).val / 16
    · rw [if_pos (hb.mpr hbb), dif_pos ⟨hbb, by omega, by omega⟩]
      congr 1
      apply Fin.ext
      show 128 + (s.val - (256 * ((i 0).val % 16) + 128)) = s.val - 256 * ((i 0).val % 16)
      omega
    · rw [if_neg (fun h' => hbb (hb.mp h')), dif_neg (fun h' => hbb h'.1)]
      refine View.ld_unit_apply_of _ _ _ _ _ _ fun a => ?_
      refine Eq.trans ?_ (congrArg (· + _) (congrFun (off2b_eq i) a).symm)
      match a with
      | 0 => show b.val = 0 + b.val; omega
      | 1 => show s.val = 256 * ((i 0).val % 16) + 128 + (s.val - (256 * ((i 0).val % 16) + 128)); omega
  · next h1 =>
    have h1 : ¬ (256 * ((i 0).val % 16) + 128 ≤ s.val ∧ s.val < 256 * ((i 0).val % 16) + 256) := h1
    split
    · next h =>
      have h : 256 * ((i 0).val % 16) ≤ s.val ∧ s.val < 256 * ((i 0).val % 16) + 128 := h
      show k0_pay95 (BitVec.ofNat 32 ((i 0).val / 16)) k0_pay3 sc _ (ix2 b ⟨s.val - 256 * ((i 0).val % 16), _⟩) = _
      rw [pay95_apply, hf]
      by_cases hbb : b.val = (i 0).val / 16
      · rw [if_pos (hb.mpr hbb), dif_pos ⟨hbb, by omega, by omega⟩]
      · rw [if_neg (fun h' => hbb (hb.mp h')), dif_neg (fun h' => hbb h'.1)]
        refine View.ld_unit_apply_of _ _ _ _ _ _ fun a => ?_
        refine Eq.trans ?_ (congrArg (· + _) (congrFun (off2a_eq i) a).symm)
        match a with
        | 0 => show b.val = 0 + b.val; omega
        | 1 => show s.val = 256 * ((i 0).val % 16) + (s.val - 256 * ((i 0).val % 16)); omega
    · next h2 =>
      have h2 : ¬ (256 * ((i 0).val % 16) ≤ s.val ∧ s.val < 256 * ((i 0).val % 16) + 128) := h2
      rw [dif_neg (by omega)]

end Cert.KernelIdeal.Hand
-- ==== Proof.Results.lean ====
module
public import proofs.«01_k».proof.Proof.Row
@[expose] public section

/-!
# The three results, as functions of the six arguments

The activations are 2 samples of 4096 rows of 3072; each sample has one modulation row. Row `R` of the 8192 rows of the
product and of the codes is row `R % 4096` of sample `R / 4096`.
-/
noncomputable section
namespace Cert.Spec
open Idealize.ShloMosaic

variable (x : (⟨3, ![2, 4096, 3072]⟩ : Shape).Idx → EReal) (ms sh : (⟨2, ![2, 3072]⟩ : Shape).Idx → EReal)
  (w : (⟨2, ![3072, 9216]⟩ : Shape).Idx → EReal) (ws bo : (⟨1, ![9216]⟩ : Shape).Idx → EReal)

/-- The scale of row `s` of sample `b`. -/
def scaleOf (b : Fin 2) (s : Fin 4096) : EReal := scale (fun k => x (ix3 b s k)) (fun k => ms (ix2 b k)) (fun k => sh (ix2 b k))

/-- The codes of row `s` of sample `b`. -/
def codeOf (b : Fin 2) (s : Fin 4096) (k : Fin 3072) : EReal :=
  code (fun k => x (ix3 b s k)) (fun k => ms (ix2 b k)) (fun k => sh (ix2 b k)) k

/-- The product of row `s` of sample `b`. -/
def prodOf (b : Fin 2) (s : Fin 4096) (n : Fin 9216) : EReal :=
  proj (fun k => x (ix3 b s k)) (fun k => ms (ix2 b k)) (fun k => sh (ix2 b k)) (fun k => w (ix2 k n)) (ws (ix1 n)) (bo (ix1 n))

/-- Row `R`'s sample. -/
def sampleOf (R : Fin 8192) : Fin 2 := ⟨R.val / 4096, by omega⟩

/-- Row `R`'s number within its sample. -/
def rowIn (R : Fin 8192) : Fin 4096 := ⟨R.val % 4096, Nat.mod_lt _ (by decide)⟩

/-- The product. -/
def resY : (⟨2, ![8192, 9216]⟩ : Shape).Idx → EReal := fun i => prodOf x ms sh w ws bo (sampleOf (i 0)) (rowIn (i 0)) (i 1)

/-- The codes. -/
def resCodes : (⟨2, ![8192, 3072]⟩ : Shape).Idx → EReal := fun i => codeOf x ms sh (sampleOf (i 0)) (rowIn (i 0)) (i 1)

/-- The scales. -/
def resScales : (⟨2, ![2, 4096]⟩ : Shape).Idx → EReal := fun i => scaleOf x ms sh (i 0) (i 1)

end Cert.Spec
-- ==== Proof.IdealFinal.lean ====
module
public import proofs.«01_k».proof.Proof.IdealPoint
public import proofs.«01_k».proof.Proof.Results
public import Idealize.ShloMosaic.Lib.Pipeline.ArrRel
public import Idealize.ShloMosaic.Lib.Pipeline.ValueKit.Acc
public import Idealize.ShloMosaic.Lib.Pipeline.ValueKit.Geometry
@[expose] public section
set_option maxRecDepth 16384

/-!
# The kernel's three results at the end of a run, on the extended reals
-/
noncomputable section
namespace Cert.KernelIdeal.Hand
open Cert.KernelIdeal Cert.KernelIdeal.Gen
open Idealize.ShloMosaic Idealize.ShloMosaic.TcCoe Idealize.ShloMosaic.Tactic
open Cert.Spec
variable (m : (ℓ : Loc nD τ sig) → Buf (Elt Ideal) ℓ) (c : Dev nD)

/-! ## The arguments -/

/-- The activations. -/
abbrev argX : S2x4096x3072.Idx → EReal := m ((c.tc : Thread nD τ).loc main_arg0)
/-- The modulation's scale. -/
abbrev argMs : S2x3072.Idx → EReal := m ((c.tc : Thread nD τ).loc main_arg1)
/-- The modulation's shift. -/
abbrev argSh : S2x3072.Idx → EReal := m ((c.tc : Thread nD τ).loc main_arg2)
/-- The weights. -/
abbrev argW : S3072x9216.Idx → EReal := m ((c.tc : Thread nD τ).loc main_arg3)
/-- The weights' scales. -/
abbrev argWs : S9216.Idx → EReal := m ((c.tc : Thread nD τ).loc main_arg4)
/-- The bias. -/
abbrev argB : S9216.Idx → EReal := m ((c.tc : Thread nD τ).loc main_arg5)

/-- The modulation is finite on core `c`. -/
def FinMod : Prop := (∀ b k, Fin32 (argMs m c (ix2 b k))) ∧ ∀ b k, Fin32 (argSh m c (ix2 b k))

/-! ## The blocks at a point -/

theorem coords0 (t : Fin cfg0.N) : ((grid0.coords t) 0).val = t.val := by revert t; decide +kernel
theorem index0 (t : Fin cfg0.N) : win0_0.index t = ![t.val, 0] := by revert t; decide +kernel
theorem index1 (t : Fin cfg0.N) : win0_1.index t = ![0, 0] := by revert t; decide +kernel
theorem index2 (t : Fin cfg0.N) : win0_2.index t = ![0, 0] := by revert t; decide +kernel
theorem index3 (t : Fin cfg0.N) : win0_3.index t = ![0, 0] := by revert t; decide +kernel
theorem index4 (t : Fin cfg0.N) : win0_4.index t = ![0, 0] := by revert t; decide +kernel
theorem index5 (t : Fin cfg0.N) : win0_5.index t = ![0, 0] := by revert t; decide +kernel
theorem index6 (t : Fin cfg0.N) : win0_6.index t = ![t.val, 0] := by revert t; decide +kernel
theorem index7 (t : Fin cfg0.N) : win0_7.index t = ![t.val, 0] := by revert t; decide +kernel

theorem iblk0 (t : Fin cfg0.N) (r : Fin 256) (k : Fin 3072) (b : Fin 2) (s : Fin 4096) (h : 4096 * b.val + s.val = 256 * t.val + r.val) :
    iblk m c 0 t (ix2 r k) = argX m c (ix3 b s k) := by
  blk_ext! [iblk, V, index0 t]
theorem iblk1 (t : Fin cfg0.N) : iblk m c 1 t = argMs m c := by
  blk_ext! [iblk, V, index1 t]
theorem iblk2 (t : Fin cfg0.N) : iblk m c 2 t = argSh m c := by
  blk_ext! [iblk, V, index2 t]
theorem iblk3 (t : Fin cfg0.N) : iblk m c 3 t = argW m c := by
  blk_ext! [iblk, V, index3 t]
theorem iblk4 (t : Fin cfg0.N) (n : Fin 9216) : iblk m c 4 t (ix2 0 n) = argWs m c (ix1 n) := by
  blk_ext! [iblk, V, index4 t]
theorem iblk5 (t : Fin cfg0.N) (n : Fin 9216) : iblk m c 5 t (ix2 0 n) = argB m c (ix1 n) := by
  blk_ext! [iblk, V, index5 t]

/-- The modulation row a point reads is its sample's. -/
theorem ld_mod (A : Vec Ideal S2x3072 .f32) (t : Fin cfg0.N) (b : Fin 2) (h : b.val = t.val / 16) (k : Fin 3072) :
    View.ld A (modR (grid0.coords t)) (ix2 0 k) = A (ix2 b k) := by
  refine View.ld_unit_apply_of _ _ _ _ _ _ fun a => ?_
  refine Eq.trans ?_ (congrArg (· + _) (congrFun (off1_eq (grid0.coords t)) a).symm)
  match a with
  | 0 => show b.val = ((grid0.coords t) 0).val / 16 + 0; rw [coords0]; omega
  | 1 => show k.val = 0 + k.val; omega

/-- Row `r` of point `t`, as a sample and a row within it. -/
theorem place (t : Fin cfg0.N) (r : Fin 256) (b : Fin 2) (s : Fin 4096) (h : 4096 * b.val + s.val = 256 * t.val + r.val) : b.val = t.val / 16 := by
  have : t.val < 32 := t.isLt
  omega

section
variable {m c}

/-- The rows of a point in terms of the arguments: the three row functions the block lemmas speak of. -/
theorem rows_eq (t : Fin cfg0.N) (r : Fin 256) (b : Fin 2) (s : Fin 4096) (h : 4096 * b.val + s.val = 256 * t.val + r.val) :
    (fun k => (iblk m c 0 t : Vec Ideal S256x3072 .bf16) (ix2 r k)) = (fun k => argX m c (ix3 b s k))
    ∧ (fun k => View.ld (iblk m c 1 t : Vec Ideal S2x3072 .f32) (modR (grid0.coords t)) (ix2 0 k)) = (fun k => argMs m c (ix2 b k))
    ∧ (fun k => View.ld (iblk m c 2 t : Vec Ideal S2x3072 .f32) (modR (grid0.coords t)) (ix2 0 k)) = (fun k => argSh m c (ix2 b k)) := by
  refine ⟨funext fun k => iblk0 m c t r k b s h, funext fun k => ?_, funext fun k => ?_⟩
  · rw [iblk1]; exact ld_mod _ t b (place t r b s h) k
  · rw [iblk2]; exact ld_mod _ t b (place t r b s h) k

theorem scaleAt_apply (hm : FinMod m c) (t : Fin cfg0.N) (r : Fin 256) (l : Fin 128) (b : Fin 2) (s : Fin 4096)
    (h : 4096 * b.val + s.val = 256 * t.val + r.val) : scaleAt m c t (ix2 r l) = scaleOf (argX m c) (argMs m c) (argSh m c) b s := by
  obtain ⟨e0, e1, e2⟩ := rows_eq (m := m) (c := c) t r b s h
  unfold scaleAt
  refine (scaleB_apply _ _ _ r l).trans ?_
  refine Eq.trans ?_ (scaleBits_tv _ _ _ (hm.1 b) (hm.2 b))
  exact congrArg scaleBits (congr (congr (congrArg tv e0) e1) e2)

theorem codesAt_apply (hm : FinMod m c) (t : Fin cfg0.N) (r : Fin 256) (k : Fin 3072) (b : Fin 2) (s : Fin 4096)
    (h : 4096 * b.val + s.val = 256 * t.val + r.val) : codesAt m c t (ix2 r k) = codeOf (argX m c) (argMs m c) (argSh m c) b s k := by
  obtain ⟨e0, e1, e2⟩ := rows_eq (m := m) (c := c) t r b s h
  unfold codesAt
  refine (codesB_apply _ _ _ r k).trans ?_
  refine Eq.trans ?_ (codeBits_tv _ _ _ (hm.1 b) (hm.2 b) k)
  have key : ∀ R R' M M' S S' : Fin 3072 → EReal, R = R' → M = M' → S = S' →
      clamp (hv R M S k * invBits (tv R M S)) = clamp (hv R' M' S' k * invBits (tv R' M' S')) := by
    rintro R _ M _ S _ rfl rfl rfl; rfl
  exact key _ _ _ _ _ _ e0 e1 e2

theorem yAt_apply (hm : FinMod m c) (t : Fin cfg0.N) (r : Fin 256) (n : Fin 9216) (b : Fin 2) (s : Fin 4096)
    (h : 4096 * b.val + s.val = 256 * t.val + r.val) :
    yAt m c t (ix2 r n) = prodOf (argX m c) (argMs m c) (argSh m c) (argW m c) (argWs m c) (argB m c) b s n := by
  unfold yAt
  refine (yB_apply _ _ _ _ _ r n).trans ?_
  refine congrArg₂ (· + ·) (congrArg₂ (· * ·) (congrArg₂ (· * ·) (Finset.sum_congr rfl fun k _ => congrArg₂ (· * ·) ?_ ?_) ?_) ?_) ?_
  · exact codesAt_apply hm t r k b s h
  · exact congrFun (iblk3 m c t) (ix2 k n)
  · exact scaleAt_apply hm t r 0 b s h
  · exact iblk4 m c t n
  · exact iblk5 m c t n

/-! ## The resident scale array -/

/-- After point `t` every row computed so far has its scale in place. -/
theorem leaves_8 (hm : FinMod m c) : ∀ (n : ℕ) (t : Fin cfg0.N) (_ : t.val = n) (X) (_ : (rdat m c).Leaves 8 t X) (b : Fin 2) (s : Fin 4096)
    (_ : 4096 * b.val + s.val < 256 * (n + 1)),
    (X : Vec Ideal S2x4096 .f32) (ix2 b s) = scaleOf (argX m c) (argMs m c) (argSh m c) b s := by
  intro n
  induction n with
  | zero =>
    intro t ht X hX b s hbs
    obtain ⟨Y, -, hY⟩ := hX
    dsimp only [rdat] at hY
    rw [hY]
    refine (stepB_apply (grid0.coords t) (scaleAt m c t) (fun r => scaleAt m c t (ix2 r 0)) ?_ Y b s).trans ?_
    · intro r l
      have h := scaleAt_apply hm t r l 0 ⟨r.val, by omega⟩ (by show 4096 * 0 + r.val = _; omega)
      exact h.trans (scaleAt_apply hm t r 0 0 ⟨r.val, by omega⟩ (by show 4096 * 0 + r.val = _; omega)).symm
    · rw [dif_pos (by rw [coords0]; omega)]
      exact scaleAt_apply hm t _ 0 b s (by simp only [coords0]; omega)
  | succ n ih =>
    intro t ht X hX b s hbs
    have ht32 : t.val < 32 := t.isLt
    obtain ⟨Y, hF, hY⟩ := hX
    dsimp only [rdat] at hY
    rw [hY]
    refine (stepB_apply (grid0.coords t) (scaleAt m c t) (fun r => scaleAt m c t (ix2 r 0)) ?_ Y b s).trans ?_
    · intro r l
      have hp : 4096 * (t.val / 16) + (256 * (t.val % 16) + r.val) = 256 * t.val + r.val := by omega
      have h := scaleAt_apply hm t r l ⟨t.val / 16, by omega⟩ ⟨256 * (t.val % 16) + r.val, by omega⟩ hp
      exact h.trans (scaleAt_apply hm t r 0 ⟨t.val / 16, by omega⟩ ⟨256 * (t.val % 16) + r.val, by omega⟩ hp).symm
    · split
      · next h => exact scaleAt_apply hm t _ 0 b s (by simp only [coords0] at h ⊢; omega)
      · next h =>
        have hl := ((rdat m c).finds_of_pos (w := 8) (t := t) rfl (by omega) Y).mp hF
        rcases hl with hl | hl
        · have := (flush0_8 _).mp hl
          dsimp only at this
          omega
        · exact ih _ (by dsimp only; omega) Y hl b s (by rw [coords0] at h; omega)

end

/-! ## The results -/

variable {r : PUnit × MemSt nD τ sig (Elt Ideal)}

omit m c in
/-- Which element of the product an element of a point's block is. -/
theorem emb6 (t : Fin cfg0.N) (y : S256x9216.Idx) (R : Fin 8192) (hR : R.val = 256 * t.val + (y 0).val) :
    (win0_6.blk t).view.emb y = ix2 R (y 1) := by
  blk_ext [index6 t]

omit m c in
/-- Which element of the codes an element of a point's block is. -/
theorem emb7 (t : Fin cfg0.N) (y : S256x3072.Idx) (R : Fin 8192) (hR : R.val = 256 * t.val + (y 0).val) :
    (win0_7.blk t).view.emb y = ix2 R (y 1) := by
  blk_ext [index7 t]

theorem yAt_res (hm : FinMod m c) (t : Fin cfg0.N) (y : S256x9216.Idx) :
    yAt m c t y = resY (argX m c) (argMs m c) (argSh m c) (argW m c) (argWs m c) (argB m c) ((win0_6.blk t).view.emb y) := by
  have ht32 : t.val < 32 := t.isLt
  have hy0 : (y 0).val < 256 := (y 0).isLt
  refine Eq.trans ?_ (congrArg (resY _ _ _ _ _ _) (emb6 t y ⟨256 * t.val + (y 0).val, by omega⟩ rfl).symm)
  have hy : y = ix2 (y 0) (y 1) := eq_ix2 y
  refine (congrArg (yAt m c t) hy).trans ?_
  exact yAt_apply hm t (y 0) (y 1) (sampleOf ⟨256 * t.val + (y 0).val, by omega⟩) (rowIn ⟨256 * t.val + (y 0).val, by omega⟩)
    (Nat.div_add_mod (256 * t.val + (y 0).val) 4096)

theorem codesAt_res (hm : FinMod m c) (t : Fin cfg0.N) (y : S256x3072.Idx) :
    codesAt m c t y = resCodes (argX m c) (argMs m c) (argSh m c) ((win0_7.blk t).view.emb y) := by
  have ht32 : t.val < 32 := t.isLt
  have hy0 : (y 0).val < 256 := (y 0).isLt
  refine Eq.trans ?_ (congrArg (resCodes _ _ _) (emb7 t y ⟨256 * t.val + (y 0).val, by omega⟩ rfl).symm)
  have hy : y = ix2 (y 0) (y 1) := eq_ix2 y
  refine (congrArg (codesAt m c t) hy).trans ?_
  exact codesAt_apply hm t (y 0) (y 1) (sampleOf ⟨256 * t.val + (y 0).val, by omega⟩) (rowIn ⟨256 * t.val + (y 0).val, by omega⟩)
    (Nat.div_add_mod (256 * t.val + (y 0).val) 4096)

theorem final_y (hm : FinMod m c) (h : Pipeline.RDat.FramePost cfg0 (rdat m) (V m) r) :
    r.2.mem ((c.tc : Thread nD τ).loc main_v3_0) = resY (argX m c) (argMs m c) (argSh m c) (argW m c) (argWs m c) (argB m c) := by
  obtain ⟨after, hL, hA⟩ := h.exists_exact c
  refine (hA 6).trans ?_
  refine ((rdat m c).withAfter after).arrAt_eq_of_covers 6 _ (by decide +kernel) fun t hf y => ?_
  obtain ⟨Y, -, hY⟩ := hL 6 t hf
  dsimp only [rdat] at hY
  blk_simp
  rw [Pipeline.RDat.withAfter_after, hY]
  exact yAt_res m c hm t y

theorem final_codes (hm : FinMod m c) (h : Pipeline.RDat.FramePost cfg0 (rdat m) (V m) r) :
    r.2.mem ((c.tc : Thread nD τ).loc main_v3_1) = resCodes (argX m c) (argMs m c) (argSh m c) := by
  obtain ⟨after, hL, hA⟩ := h.exists_exact c
  refine (hA 7).trans ?_
  refine ((rdat m c).withAfter after).arrAt_eq_of_covers 7 _ (by decide +kernel) fun t hf y => ?_
  obtain ⟨Y, -, hY⟩ := hL 7 t hf
  dsimp only [rdat] at hY
  blk_simp
  rw [Pipeline.RDat.withAfter_after, hY]
  exact codesAt_res m c hm t y

theorem final_scales (hm : FinMod m c) (h : Pipeline.RDat.FramePost cfg0 (rdat m) (V m) r) :
    r.2.mem ((c.tc : Thread nD τ).loc main_v3_2) = resScales (argX m c) (argMs m c) (argSh m c) := by
  have hlast : ∀ t : Fin cfg0.N, win0_8.flush t = true → t = (31 : Fin 32) := fun t ht => by
    have h31 := (flush0_8 t).mp ht
    have ht32 : t.val < 32 := t.isLt
    refine Fin.ext ?_
    show t.val = 31
    omega
  have hw : win0_8.WholeAt (31 : Fin 32) := ⟨by decide +kernel, hlast, by show ∀ a : Fin 2, _; decide +kernel⟩
  obtain ⟨X, hX, hG⟩ := ((h c).1 8).emb_eq_of_wholeAt hw
  funext j
  refine (hG j).trans ?_
  have h0 : (j 0).val < 2 := (j 0).isLt
  have h1 : (j 1).val < 4096 := (j 1).isLt
  have e := leaves_8 (m := m) (c := c) hm 31 (31 : Fin 32) rfl X hX (j 0) (j 1) (by omega)
  refine Eq.trans ?_ e
  exact congrArg X (funext fun a => by fin_cases a <;> rfl)

end Cert.KernelIdeal.Hand
-- ==== Proof.ReferencePoint.lean ====
module
public import proofs.«01_k».proof.Proof.Gen.ReferenceIdeal.Frame
public import proofs.«01_k».proof.Proof.Results
public import Idealize.ShloMosaic.Lib.Pipeline.ValueKit.Point
@[expose] public section
set_option maxRecDepth 16384

/-!
# What the reference computes, entry by entry, on the extended reals
-/
noncomputable section
namespace Cert.ReferenceIdeal.Hand
open Cert.ReferenceIdeal Cert.ReferenceIdeal.Gen
open Idealize.ShloMosaic Idealize.ShloMosaic.TcCoe Idealize.ShloMosaic.Tactic
open Cert.Spec

variable (x : Vec Ideal S2x4096x3072 .bf16) (ms sh : Vec Ideal S2x3072 .f32) (b : Fin 2) (s : Fin 4096)

theorem pay1_apply (l : Fin 3072) :
    k0_pay1 x ms sh (ix3 b s l) = hv (fun k => x (ix3 b s k)) (fun k => ms (ix2 b k)) (fun k => sh (ix2 b k)) l := by
  unfold hv vr xc
  simp only [← div_3072]
  pointwise [k0_pay1]

/-- The scaled column of a row quantity. -/
theorem scaled_column (h : FVec Ideal S2x4096 .f32) :
    mulf (shapeCast S2x4096x1 h shapeCasts_S2x4096_S2x4096x1) (broadcast S2x4096x1 (Scalar.ofBits .f32 0x3B124925#32)) (ix3 b s 0)
      = h (ix2 b s) * Ideal.ofBits .f32 991054117#32 := by
  pointwise []

/-- The largest entry of a row. -/
theorem row_max (h : FVec Ideal S2x4096x3072 .f32) :
    multiReduction .maximumf [2] S2x4096 h 0xFF800000#32 reduces_S2x4096x3072_S2x4096 (.inl rfl) rfl (ix2 b s)
      = Finset.univ.fold max (Ideal.ofBits .f32 4286578688#32) (fun k => h (ix3 b s k)) := by
  pointwise []

theorem pay2_apply : k0_pay2 x ms sh (ix3 b s 0) = tv (fun k => x (ix3 b s k)) (fun k => ms (ix2 b k)) (fun k => sh (ix2 b k)) := by
  unfold k0_pay2
  refine (scaled_column b s _).trans ?_
  refine (congrArg (· * Ideal.ofBits .f32 991054117#32) (row_max b s _)).trans ?_
  unfold tv
  have key : ∀ f g : Fin 3072 → EReal, f = g → Finset.univ.fold max (Ideal.ofBits .f32 4286578688#32) f * Ideal.ofBits .f32 991054117#32
      = Finset.univ.fold max (Ideal.ofBits .f32 4286578688#32) g * Ideal.ofBits .f32 991054117#32 := by rintro f _ rfl; rfl
  refine key _ _ (funext fun k => ?_)
  rw [← pay1_apply]
  rfl

theorem pay3_apply (k : Fin 254) : k0_pay3 (F := Ideal) (ix3 0 0 k) = cand k := by
  unfold cand
  pointwise [k0_pay3]

/-- A candidate exponent's comparison against a row's quantity. -/
theorem compare (t : FVec Ideal S2x4096x1 .f32) (q : FVec Ideal S1x1x254 .f32) (k : Fin 254) :
    cmpf .ole (broadcastTo S2x4096x254 (exp2 q) broadcasts_S1x1x254_S2x4096x254) (broadcastTo S2x4096x254 t broadcasts_S2x4096x1_S2x4096x254) (ix3 b s k)
      = BitVec.ofBool (decide (Ideal.exp2 (q (ix3 0 0 k)) ≤ t (ix3 b s 0))) := by
  pointwise []
  rfl

theorem pay4_apply (k : Fin 254) : k0_pay4 x ms sh (ix3 b s k) = BitVec.ofBool (decide (Ideal.exp2 (cand k) ≤ k0_pay2 x ms sh (ix3 b s 0))) := by
  rw [← pay3_apply]
  unfold k0_pay4
  exact compare b s _ _ k

theorem pay5_apply (k : Fin 254) : k0_pay5 (F := Ideal) (ix3 0 0 k) = cand k + 1 := by
  rw [← pay3_apply]
  unfold k0_pay5
  generalize (k0_pay3 (F := Ideal)) = q
  pointwise []

theorem pay6_apply (t : FVec Ideal S2x4096x1 .f32) (p : IVec S2x4096x254 1) (q : FVec Ideal S1x1x254 .f32)
    (hp : ∀ k, p (ix3 b s k) = BitVec.ofBool (decide (Ideal.exp2 (cand k) ≤ t (ix3 b s 0)))) (hq : ∀ k, q (ix3 0 0 k) = cand k + 1) :
    k0_pay6 t p q (ix3 b s 0) = expo (t (ix3 b s 0)) := by
  unfold expo
  simp only [← hp, ← hq]
  pointwise [k0_pay6]

theorem pay7_apply (h : FVec Ideal S2x4096x3072 .f32) (t : FVec Ideal S2x4096x1 .f32) (p : IVec S2x4096x254 1) (q : FVec Ideal S1x1x254 .f32) (l : Fin 3072) :
    k0_pay7 h t p q (ix3 b s l) = clamp (h (ix3 b s l) * Ideal.exp2 (0 - k0_pay6 t p q (ix3 b s 0))) := by
  unfold clamp
  unfold k0_pay7
  generalize k0_pay6 t p q = e
  pointwise []
  rfl

theorem pay8_apply (t : FVec Ideal S2x4096x1 .f32) (p : IVec S2x4096x254 1) (q : FVec Ideal S1x1x254 .f32) :
    k0_pay8 t p q (ix3 b s 0) = Ideal.exp2 (k0_pay6 t p q (ix3 b s 0)) := by
  unfold k0_pay8
  rfl

theorem pay9_apply (t : FVec Ideal S2x4096x1 .f32) (p : IVec S2x4096x254 1) (q : FVec Ideal S1x1x254 .f32) :
    k0_pay9 t p q (ix2 b s) = k0_pay8 t p q (ix3 b s 0) := by
  unfold k0_pay9
  generalize k0_pay8 t p q = e
  pointwise []

theorem pay10_apply (h : FVec Ideal S2x4096x3072 .f32) (t : FVec Ideal S2x4096x1 .f32) (p : IVec S2x4096x254 1) (q : FVec Ideal S1x1x254 .f32)
    (w : Vec Ideal S3072x9216 .fp8e4m3) (ws bo : Vec Ideal S9216 .f32) (n : Fin 9216) :
    k0_pay10 h t p q w ws bo (ix3 b s n)
      = (∑ k, k0_pay7 h t p q (ix3 b s k) * w (ix2 k n)) * k0_pay8 t p q (ix3 b s 0) * ws (ix1 n) + bo (ix1 n) := by
  unfold k0_pay10
  generalize k0_pay7 h t p q = cd
  generalize k0_pay8 t p q = e
  pointwise []

end Cert.ReferenceIdeal.Hand
-- ==== Proof.ReferenceFinal.lean ====
module
public import proofs.«01_k».proof.Proof.ReferencePoint
public import Idealize.ShloMosaic.Lib.Pipeline.ValueKit.Acc
public import Idealize.ShloMosaic.Lib.Pipeline.ValueKit.Geometry
@[expose] public section
set_option maxRecDepth 16384

/-!
# The reference's three results at the end of a run, on the extended reals
-/
noncomputable section
namespace Cert.ReferenceIdeal.Hand
open Cert.ReferenceIdeal Cert.ReferenceIdeal.Gen
open Idealize.ShloMosaic Idealize.ShloMosaic.TcCoe Idealize.ShloMosaic.Tactic
open Cert.Spec

section
variable (x : Vec Ideal S2x4096x3072 .bf16) (ms sh : Vec Ideal S2x3072 .f32) (w : Vec Ideal S3072x9216 .fp8e4m3)
  (ws bo : Vec Ideal S9216 .f32) (b : Fin 2) (s : Fin 4096)

/-- The exponent of a row. -/
theorem exponent : k0_pay6 (k0_pay2 x ms sh) (k0_pay4 x ms sh) (k0_pay5 (F := Ideal)) (ix3 b s 0)
    = expo (tv (fun k => x (ix3 b s k)) (fun k => ms (ix2 b k)) (fun k => sh (ix2 b k))) := by
  rw [← pay2_apply]
  exact pay6_apply b s _ _ _ (fun k => pay4_apply x ms sh b s k) (fun k => pay5_apply k)

theorem scale_eq : k0_pay8 (k0_pay2 x ms sh) (k0_pay4 x ms sh) (k0_pay5 (F := Ideal)) (ix3 b s 0) = scaleOf x ms sh b s :=
  (pay8_apply b s _ _ _).trans (congrArg Ideal.exp2 (exponent x ms sh b s))

theorem code_eq (k : Fin 3072) : k0_pay7 (k0_pay1 x ms sh) (k0_pay2 x ms sh) (k0_pay4 x ms sh) (k0_pay5 (F := Ideal)) (ix3 b s k) = codeOf x ms sh b s k := by
  refine (pay7_apply b s _ _ _ _ k).trans ?_
  rw [exponent, pay1_apply]
  rfl

theorem prod_eq (n : Fin 9216) : k0_pay10 (k0_pay1 x ms sh) (k0_pay2 x ms sh) (k0_pay4 x ms sh) (k0_pay5 (F := Ideal)) w ws bo (ix3 b s n)
    = prodOf x ms sh w ws bo b s n := by
  refine (pay10_apply b s _ _ _ _ w ws bo n).trans ?_
  rw [scale_eq]
  simp only [code_eq]
  rfl

end

variable (m : (ℓ : Loc nD τ sig) → Buf (Elt Ideal) ℓ) (c : Dev nD)

/-- The activations. -/
abbrev argX : S2x4096x3072.Idx → EReal := m ((c.tc : Thread nD τ).loc main_arg0)
/-- The modulation's scale. -/
abbrev argMs : S2x3072.Idx → EReal := m ((c.tc : Thread nD τ).loc main_arg1)
/-- The modulation's shift. -/
abbrev argSh : S2x3072.Idx → EReal := m ((c.tc : Thread nD τ).loc main_arg2)
/-- The weights. -/
abbrev argW : S3072x9216.Idx → EReal := m ((c.tc : Thread nD τ).loc main_arg3)
/-- The weights' scales. -/
abbrev argWs : S9216.Idx → EReal := m ((c.tc : Thread nD τ).loc main_arg4)
/-- The bias. -/
abbrev argB : S9216.Idx → EReal := m ((c.tc : Thread nD τ).loc main_arg5)

theorem index0 (t : Fin cfg0.N) : win0_0.index t = ![0, 0, 0] := by revert t; decide +kernel
theorem index1 (t : Fin cfg0.N) : win0_1.index t = ![0, 0] := by revert t; decide +kernel
theorem index2 (t : Fin cfg0.N) : win0_2.index t = ![0, 0] := by revert t; decide +kernel
theorem index3 (t : Fin cfg0.N) : win0_3.index t = ![0, 0] := by revert t; decide +kernel
theorem index4 (t : Fin cfg0.N) : win0_4.index t = ![0] := by revert t; decide +kernel
theorem index5 (t : Fin cfg0.N) : win0_5.index t = ![0] := by revert t; decide +kernel
theorem index6 (t : Fin cfg0.N) : win0_6.index t = ![0, 0, 0] := by revert t; decide +kernel
theorem index7 (t : Fin cfg0.N) : win0_7.index t = ![0, 0, 0] := by revert t; decide +kernel
theorem index8 (t : Fin cfg0.N) : win0_8.index t = ![0, 0] := by revert t; decide +kernel

theorem iblk0 (t : Fin cfg0.N) : iblk m c 0 t = argX m c := by
  blk_ext! [iblk, V, index0 t]
theorem iblk1 (t : Fin cfg0.N) : iblk m c 1 t = argMs m c := by
  blk_ext! [iblk, V, index1 t]
theorem iblk2 (t : Fin cfg0.N) : iblk m c 2 t = argSh m c := by
  blk_ext! [iblk, V, index2 t]
theorem iblk3 (t : Fin cfg0.N) : iblk m c 3 t = argW m c := by
  blk_ext! [iblk, V, index3 t]
theorem iblk4 (t : Fin cfg0.N) : iblk m c 4 t = argWs m c := by
  blk_ext! [iblk, V, index4 t]
theorem iblk5 (t : Fin cfg0.N) : iblk m c 5 t = argB m c := by
  blk_ext! [iblk, V, index5 t]

omit m c in
theorem emb6 (t : Fin cfg0.N) (y : S2x4096x9216.Idx) : (win0_6.blk t).view.emb y = y := by
  blk_ext [index6 t]
omit m c in
theorem emb7 (t : Fin cfg0.N) (y : S2x4096x3072.Idx) : (win0_7.blk t).view.emb y = y := by
  blk_ext [index7 t]
omit m c in
theorem emb8 (t : Fin cfg0.N) (y : S2x4096.Idx) : (win0_8.blk t).view.emb y = y := by
  blk_ext [index8 t]

/-- The product before its two leading axes are merged. -/
def prod3 : S2x4096x9216.Idx → EReal :=
  fun i => prodOf (argX m c) (argMs m c) (argSh m c) (argW m c) (argWs m c) (argB m c) (i 0) (i 1) (i 2)

/-- The codes before their two leading axes are merged. -/
def codes3 : S2x4096x3072.Idx → EReal := fun i => codeOf (argX m c) (argMs m c) (argSh m c) (i 0) (i 1) (i 2)

theorem after_prod (t : Fin cfg0.N) (y : S2x4096x9216.Idx) : (dats m 0 c).after 6 t y = prod3 m c y := by
  rw [after0_6]
  unfold_out out0_6
  frame_out
  rw [iblk0, iblk1, iblk2, iblk3, iblk4, iblk5]
  refine (congrArg _ (eq_ix3 y)).trans ?_
  exact prod_eq _ _ _ _ _ _ (y 0) (y 1) (y 2)

theorem after_codes (t : Fin cfg0.N) (y : S2x4096x3072.Idx) : (dats m 0 c).after 7 t y = codes3 m c y := by
  rw [after0_7]
  unfold_out out0_7
  frame_out
  rw [iblk0, iblk1, iblk2]
  refine (congrArg _ (eq_ix3 y)).trans ?_
  exact code_eq _ _ _ (y 0) (y 1) (y 2)

theorem after_scales (t : Fin cfg0.N) (y : S2x4096.Idx) : (dats m 0 c).after 8 t y = resScales (argX m c) (argMs m c) (argSh m c) y := by
  rw [after0_8]
  unfold_out out0_8
  frame_out
  rw [iblk0, iblk1, iblk2]
  refine (congrArg _ (eq_ix2 y)).trans ?_
  exact (pay9_apply (y 0) (y 1) _ _ _).trans (scale_eq _ _ _ (y 0) (y 1))

theorem arr6 : (dats m 0 c).arrAt 6 cfg0.N = prod3 m c := by
  refine (dats m 0 c).arrAt_eq_of_covers 6 _ (by decide +kernel) fun t hf y => ?_
  blk_simp
  exact (after_prod m c t y).trans (congrArg (prod3 m c) (emb6 t y).symm)

theorem arr7 : (dats m 0 c).arrAt 7 cfg0.N = codes3 m c := by
  refine (dats m 0 c).arrAt_eq_of_covers 7 _ (by decide +kernel) fun t hf y => ?_
  blk_simp
  exact (after_codes m c t y).trans (congrArg (codes3 m c) (emb7 t y).symm)

theorem arr8 : (dats m 0 c).arrAt 8 cfg0.N = resScales (argX m c) (argMs m c) (argSh m c) := by
  refine (dats m 0 c).arrAt_eq_of_covers 8 _ (by decide +kernel) fun t hf y => ?_
  blk_simp
  exact (after_scales m c t y).trans (congrArg (resScales _ _ _) (emb8 t y).symm)

omit m c in
/-- Row `R` of the merged product. -/
theorem merge_prod (v : S2x4096x9216.Idx → EReal) (R : Fin 8192) (n : Fin 9216) :
    shapeCast S8192x9216 v shapeCasts_S2x4096x9216_S8192x9216 (ix2 R n) = v (ix3 (sampleOf R) (rowIn R) n) := by
  unfold sampleOf rowIn
  pointwise []

omit m c in
/-- Row `R` of the merged codes. -/
theorem merge_codes (v : S2x4096x3072.Idx → EReal) (R : Fin 8192) (k : Fin 3072) :
    shapeCast S8192x3072 v shapeCasts_S2x4096x3072_S8192x3072 (ix2 R k) = v (ix3 (sampleOf R) (rowIn R) k) := by
  unfold sampleOf rowIn
  pointwise []

variable {r : PUnit × MemSt nD τ sig (Elt Ideal)}

/-- What a run of the reference ends with. -/
abbrev Post (r : PUnit × MemSt nD τ sig (Elt Ideal)) : Prop :=
  Pipeline.FramePost cfgs (dats m) 0 (Pipeline.afterTail₀ cfgs (dats m) 0 (V0 m) [hostOps1]) r

omit m c r in
/-- The windows' arrays are distinct. -/
theorem arrays_inj : Function.Injective (Pipeline.arrRef (cfgs 0).spec) := by
  show Function.Injective (Pipeline.arrRef spec0)
  decide +kernel

theorem final_scales (h : Post m r) : r.2.mem ((c.tc : Thread nD τ).loc main_v0_2) = resScales (argX m c) (argMs m c) (argSh m c) :=
  (h.out_eq c 8).trans (arr8 m c)

theorem final_y (h : Post m r) :
    r.2.mem ((c.tc : Thread nD τ).loc main_v1) = resY (argX m c) (argMs m c) (argSh m c) (argW m c) (argWs m c) (argB m c) := by
  have ha : Pipeline.withArrays (cfgs 0).spec c (V0 m c) (fun w => (dats m 0 c).arrAt w (cfgs 0).N) (Proc.tc.devRef main_v0_0) = prod3 m c :=
    (Pipeline.withArrays_arr (cfgs 0).spec arrays_inj c (V0 m c) (fun w => (dats m 0 c).arrAt w (cfgs 0).N) 6).trans (arr6 m c)
  refine (h.rest_eq c main_v1 (by decide)).trans ?_
  unfold Pipeline.afterTail₀
  dsimp only [List.flatten, hostOps1, List.append]
  after_results
  funext i
  refine (congrFun (congrArg (fun v => shapeCast S8192x9216 v shapeCasts_S2x4096x9216_S8192x9216) ha) i).trans ?_
  exact (congrArg _ (eq_ix2 i)).trans (merge_prod (prod3 m c) (i 0) (i 1))

theorem final_codes (h : Post m r) : r.2.mem ((c.tc : Thread nD τ).loc main_v2) = resCodes (argX m c) (argMs m c) (argSh m c) := by
  have ha : Pipeline.withArrays (cfgs 0).spec c (V0 m c) (fun w => (dats m 0 c).arrAt w (cfgs 0).N) (Proc.tc.devRef main_v0_1) = codes3 m c :=
    (Pipeline.withArrays_arr (cfgs 0).spec arrays_inj c (V0 m c) (fun w => (dats m 0 c).arrAt w (cfgs 0).N) 7).trans (arr7 m c)
  refine (h.rest_eq c main_v2 (by decide)).trans ?_
  unfold Pipeline.afterTail₀
  dsimp only [List.flatten, hostOps1, List.append]
  after_results
  funext i
  refine (congrFun (congrArg (fun v => shapeCast S8192x3072 v shapeCasts_S2x4096x3072_S8192x3072) ha) i).trans ?_
  exact (congrArg _ (eq_ix2 i)).trans (merge_codes (codes3 m c) (i 0) (i 1))

end Cert.ReferenceIdeal.Hand
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.KernelFrame
public import proofs.«01_k».proof.Proof.IdealFrame
public import proofs.«01_k».proof.Proof.IdealFinal
public import proofs.«01_k».proof.Proof.ReferenceFinal
public import Idealize.ShloMosaic.Adequacy
public import Idealize.ShloMosaic.Init

@[expose] public section

noncomputable section

namespace Cert.Proof

open Idealize.ShloMosaic Idealize.SL.Sem Cert.Kernel

/-- The precondition's one side condition. -/
theorem preFacts : Cert.Pre_finite_modulation.Facts := ⟨by decide⟩

/-- One half of the precondition: a comparison that holds everywhere bounds every entry. -/
theorem fin32_of_cmp [Cert.Pre_finite_modulation.Facts] (A : FVec Ideal Cert.Pre_finite_modulation.S2x3072 .f32)
    (h : cmpf .ole (Host.absf A) (broadcastInDim Cert.Pre_finite_modulation.S2x3072 ![] Cert.Pre_finite_modulation.Facts.bcast_S_S2x3072
      (constant Cert.Pre_finite_modulation.S_ .f32 0x7F7FFFFF#32)) = fun _ => 1#1) (b : Fin 2) (k : Fin 3072) : Cert.Spec.Fin32 (A (ix2 b k)) := by
  have e : BitVec.ofBool (decide (max (A (ix2 b k)) (-(A (ix2 b k))) ≤ Ideal.ofBits .f32 0x7F7FFFFF#32)) = 1#1 := congrFun h (ix2 b k)
  by_contra hc
  unfold Cert.Spec.Fin32 at hc
  rw [decide_eq_false hc] at e
  exact absurd e (by decide)

/-- The precondition gives a finite modulation on every core. -/
theorem finMod [Cert.Pre_finite_modulation.Facts] (m : (ℓ : Loc Cert.KernelIdeal.nD Cert.KernelIdeal.τ Cert.KernelIdeal.sig) → Buf (Elt Ideal) ℓ)
    (h : Cert.Pre_KernelIdeal_finite_modulation m) (c : Dev Cert.KernelIdeal.nD) : Cert.KernelIdeal.Hand.FinMod m c :=
  ⟨fin32_of_cmp _ (h c).1, fin32_of_cmp _ (h c).2⟩

/-- With a finite modulation the ideal form and the reference end with the same three results. -/
theorem algebraic : Cert.algebraic_KernelIdeal_ReferenceIdeal_pre_finite_modulation (hKernelIdeal := Cert.KernelIdeal.Gen.facts)
    (hReferenceIdeal := Cert.ReferenceIdeal.Gen.facts) (hPre_finite_modulation := preFacts) := by
  intro m g m' g' hpre harg
  have hm := @finMod preFacts m hpre
  refine ⟨fun c => Cert.Spec.resY (Cert.KernelIdeal.Hand.argX m c) (Cert.KernelIdeal.Hand.argMs m c) (Cert.KernelIdeal.Hand.argSh m c)
      (Cert.KernelIdeal.Hand.argW m c) (Cert.KernelIdeal.Hand.argWs m c) (Cert.KernelIdeal.Hand.argB m c),
    fun c => Cert.Spec.resCodes (Cert.KernelIdeal.Hand.argX m c) (Cert.KernelIdeal.Hand.argMs m c) (Cert.KernelIdeal.Hand.argSh m c),
    fun c => Cert.Spec.resScales (Cert.KernelIdeal.Hand.argX m c) (Cert.KernelIdeal.Hand.argMs m c) (Cert.KernelIdeal.Hand.argSh m c), ?_, ?_⟩
  · refine (θ_run _ _ _).mono (fun r h c => ?_) (Cert.KernelIdeal.Hand.run_main_quiescent m g)
    exact ⟨Cert.KernelIdeal.Hand.final_y m c (hm c) h.1, Cert.KernelIdeal.Hand.final_codes m c (hm c) h.1,
      Cert.KernelIdeal.Hand.final_scales m c (hm c) h.1, Cert.KernelIdeal.Hand.args_of_post m h.1 c⟩
  · refine (θ_run _ _ _).mono (fun r h c => ?_) (θ_run_and (Cert.ReferenceIdeal.Gen.run_main m' g') (Cert.ReferenceIdeal.Gen.unchanged m' g'))
    obtain ⟨e0, e1, e2, e3, e4, e5⟩ := harg c
    refine ⟨(Cert.ReferenceIdeal.Hand.final_y m' c h.1).trans ?_, (Cert.ReferenceIdeal.Hand.final_codes m' c h.1).trans ?_,
      (Cert.ReferenceIdeal.Hand.final_scales m' c h.1).trans ?_, h.2 c⟩
    · exact congr (congr (congr (congr (congr (congrArg Cert.Spec.resY e0) e1) e2) e3) e4) e5
    · exact congr (congr (congrArg Cert.Spec.resCodes e0) e1) e2
    · exact congr (congr (congrArg Cert.Spec.resScales e0) e1) e2

/-- The five claims. -/
theorem claim : Cert.Claim := ⟨Cert.Kernel.Gen.facts, Cert.KernelIdeal.Gen.facts, Cert.ReferenceIdeal.Gen.facts, preFacts,
  fun m ρ _ => Cert.Kernel.Hand.frame m ρ,
  fun m ρ _ => Cert.KernelIdeal.Hand.frame m ρ,
  fun m ρ _ => Cert.KernelIdeal.Hand.frame m ρ,
  fun m ρ _ => Cert.ReferenceIdeal.Gen.frame m ρ,
  fun m ρ _ => Cert.ReferenceIdeal.Gen.frame m ρ,
  IdealRules.named_const.statement Cert.KernelIdeal.κ "inv_k" .f32 0x39AAAAAB#32 ((1 / 3072 : ℝ) : EReal) rfl,
  algebraic⟩

end Cert.Proof

end
